-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S2048x256 : Shape := ⟨2, ![2048, 256]⟩
abbrev S1792x256 : Shape := ⟨2, ![1792, 256]⟩
abbrev S14 : Shape := ⟨1, ![14]⟩
abbrev S_ : Shape := ⟨0, ![]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S1792x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v8 : BitVec 32 := Scalar.muli v3 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v10 : BitVec 32 := Scalar.muli v4 c1_i32_4
  let v11 : BitVec 32 := Scalar.addi c0_i32_5 v10
  v11.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_7 : BitVec 32 := 1#32
  let v12 : BitVec 32 := Scalar.muli v6 c1_i32_7
  let v13 : BitVec 32 := Scalar.addi c0_i32_8 v12
  v13.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v16 : BitVec 32 := Scalar.muli v2 c256_i32
  let v17 : Index := Scalar.indexCast v16
  let c0_11 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_13 : BitVec 32 := 256#32
  let v22 : BitVec 32 := Scalar.muli v2 c256_i32_13
  let c0_i32_18 : BitVec 32 := 0#32
  ![v22.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_16 : BitVec 32 := 1#32
  let v23 : BitVec 32 := Scalar.muli v3 c1_i32_16
  let v24 : BitVec 32 := Scalar.addi c0_i32_17 v23
  v24.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_24 : BitVec 32 := 1#32
  let v33 : BitVec 32 := Scalar.muli v4 c1_i32_24
  let v34 : BitVec 32 := Scalar.addi c0_i32_25 v33
  v34.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_32 : BitVec 32 := 1#32
  let v43 : BitVec 32 := Scalar.muli v6 c1_i32_32
  let v44 : BitVec 32 := Scalar.addi c0_i32_33 v43
  v44.toNat
def k0_off3 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.xori v2 c1_i32_0
  let c256_i32_58 : BitVec 32 := 256#32
  let v78 : BitVec 32 := Scalar.muli v3 c256_i32_58
  let c0_i32_63 : BitVec 32 := 0#32
  ![v78.toNat, 0]
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_61 : BitVec 32 := 1#32
  let v79 : BitVec 32 := Scalar.muli v4 c1_i32_61
  let v80 : BitVec 32 := Scalar.addi c0_i32_62 v79
  v80.toNat
def k0_dev8 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_69 : BitVec 32 := 1#32
  let v89 : BitVec 32 := Scalar.muli v6 c1_i32_69
  let v90 : BitVec 32 := Scalar.addi c0_i32_70 v89
  v90.toNat
def k0_off4 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.xori v2 c1_i32_0
  let c256_i32_73 : BitVec 32 := 256#32
  let v97 : BitVec 32 := Scalar.muli v3 c256_i32_73
  let v98 : Index := Scalar.indexCast v97
  let c0_74 : Index := 0#32
  ![v98.toNat, 0]
def k0_dev9 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_98 : BitVec 32 := 1#32
  let v125 : BitVec 32 := Scalar.muli v6 c1_i32_98
  let v126 : BitVec 32 := Scalar.addi c0_i32_99 v125
  v126.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_116 : BitVec 32 := 1#32
  let v145 : BitVec 32 := Scalar.muli v6 c1_i32_116
  let v146 : BitVec 32 := Scalar.addi c0_i32_117 v145
  v146.toNat
def k0_dev11 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_169 : BitVec 32 := 1#32
  let v215 : BitVec 32 := Scalar.muli v6 c1_i32_169
  let v216 : BitVec 32 := Scalar.addi c0_i32_170 v215
  v216.toNat
def k0_off5 (d0 : Dev nD) (c1_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let v185 : BitVec 32 := Scalar.xori v6 c1_i32_142
  let c256_i32_185 : BitVec 32 := 256#32
  let v233 : BitVec 32 := Scalar.muli v185 c256_i32_185
  let v234 : Index := Scalar.indexCast v233
  let c0_186 : Index := 0#32
  ![v234.toNat, 0]
def k0_off6 (d0 : Dev nD) (c1_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let v185 : BitVec 32 := Scalar.xori v6 c1_i32_142
  let c256_i32_196 : BitVec 32 := 256#32
  let v249 : BitVec 32 := Scalar.muli v185 c256_i32_196
  let c0_i32_203 : BitVec 32 := 0#32
  ![v249.toNat, 0]
def k0_dev12 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_199 : BitVec 32 := 1#32
  let v250 : BitVec 32 := Scalar.muli v6 c1_i32_199
  let v251 : BitVec 32 := Scalar.addi c0_i32_200 v250
  v251.toNat
def k0_dev13 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_228 : BitVec 32 := 1#32
  let v285 : BitVec 32 := Scalar.muli v6 c1_i32_228
  let v286 : BitVec 32 := Scalar.addi c0_i32_229 v285
  v286.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_256 : BitVec 32 := 1#32
  let v320 : BitVec 32 := Scalar.muli v6 c1_i32_256
  let v321 : BitVec 32 := Scalar.addi c0_i32_257 v320
  v321.toNat
def k0_dev15 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_279 : BitVec 32 := 1#32
  let v348 : BitVec 32 := Scalar.muli v4 c1_i32_279
  let v349 : BitVec 32 := Scalar.addi c0_i32_280 v348
  v349.toNat
def k0_dev16 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_302 : BitVec 32 := 1#32
  let v376 : BitVec 32 := Scalar.muli v4 c1_i32_302
  let v377 : BitVec 32 := Scalar.addi c0_i32_303 v376
  v377.toNat
def k0_dev17 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_342 : BitVec 32 := 1#32
  let v423 : BitVec 32 := Scalar.muli v3 c1_i32_342
  let v424 : BitVec 32 := Scalar.addi c0_i32_343 v423
  v424.toNat
def k0_dev18 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_406 : BitVec 32 := 1#32
  let v498 : BitVec 32 := Scalar.muli v3 c1_i32_406
  let v499 : BitVec 32 := Scalar.addi c0_i32_407 v498
  v499.toNat
def k0_dev19 (d0 : Dev nD) : Nat :=
  let c0_i32_415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_414 : BitVec 32 := 1#32
  let v508 : BitVec 32 := Scalar.muli v4 c1_i32_414
  let v509 : BitVec 32 := Scalar.addi c0_i32_415 v508
  v509.toNat
def k0_dev20 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_422 : BitVec 32 := 1#32
  let v518 : BitVec 32 := Scalar.muli v6 c1_i32_422
  let v519 : BitVec 32 := Scalar.addi c0_i32_423 v518
  v519.toNat
def k0_dev21 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_452 : BitVec 32 := 1#32
  let v554 : BitVec 32 := Scalar.muli v4 c1_i32_452
  let v555 : BitVec 32 := Scalar.addi c0_i32_453 v554
  v555.toNat
def k0_dev22 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_460 : BitVec 32 := 1#32
  let v564 : BitVec 32 := Scalar.muli v6 c1_i32_460
  let v565 : BitVec 32 := Scalar.addi c0_i32_461 v564
  v565.toNat
def k0_dev23 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_490 : BitVec 32 := 1#32
  let v600 : BitVec 32 := Scalar.muli v6 c1_i32_490
  let v601 : BitVec 32 := Scalar.addi c0_i32_491 v600
  v601.toNat
def k0_dev24 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_509 : BitVec 32 := 1#32
  let v620 : BitVec 32 := Scalar.muli v6 c1_i32_509
  let v621 : BitVec 32 := Scalar.addi c0_i32_510 v620
  v621.toNat
def k0_dev25 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_563 : BitVec 32 := 1#32
  let v690 : BitVec 32 := Scalar.muli v6 c1_i32_563
  let v691 : BitVec 32 := Scalar.addi c0_i32_564 v690
  v691.toNat
def k0_dev26 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_593 : BitVec 32 := 1#32
  let v725 : BitVec 32 := Scalar.muli v6 c1_i32_593
  let v726 : BitVec 32 := Scalar.addi c0_i32_594 v725
  v726.toNat
def k0_dev27 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_623 : BitVec 32 := 1#32
  let v760 : BitVec 32 := Scalar.muli v6 c1_i32_623
  let v761 : BitVec 32 := Scalar.addi c0_i32_624 v760
  v761.toNat
def k0_dev28 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_653 : BitVec 32 := 1#32
  let v795 : BitVec 32 := Scalar.muli v6 c1_i32_653
  let v796 : BitVec 32 := Scalar.addi c0_i32_654 v795
  v796.toNat
def k0_dev29 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_679 : BitVec 32 := 1#32
  let v823 : BitVec 32 := Scalar.muli v4 c1_i32_679
  let v824 : BitVec 32 := Scalar.addi c0_i32_680 v823
  v824.toNat
def k0_dev30 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_705 : BitVec 32 := 1#32
  let v851 : BitVec 32 := Scalar.muli v4 c1_i32_705
  let v852 : BitVec 32 := Scalar.addi c0_i32_706 v851
  v852.toNat
def k0_dev31 (d0 : Dev nD) : Nat :=
  let c0_i32_750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_749 : BitVec 32 := 1#32
  let v898 : BitVec 32 := Scalar.muli v3 c1_i32_749
  let v899 : BitVec 32 := Scalar.addi c0_i32_750 v898
  v899.toNat
def k0_dev32 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_816 : BitVec 32 := 1#32
  let v973 : BitVec 32 := Scalar.muli v3 c1_i32_816
  let v974 : BitVec 32 := Scalar.addi c0_i32_817 v973
  v974.toNat
def k0_dev33 (d0 : Dev nD) : Nat :=
  let c0_i32_825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_824 : BitVec 32 := 1#32
  let v983 : BitVec 32 := Scalar.muli v4 c1_i32_824
  let v984 : BitVec 32 := Scalar.addi c0_i32_825 v983
  v984.toNat
def k0_dev34 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_832 : BitVec 32 := 1#32
  let v993 : BitVec 32 := Scalar.muli v6 c1_i32_832
  let v994 : BitVec 32 := Scalar.addi c0_i32_833 v993
  v994.toNat
def k0_dev35 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_862 : BitVec 32 := 1#32
  let v1029 : BitVec 32 := Scalar.muli v4 c1_i32_862
  let v1030 : BitVec 32 := Scalar.addi c0_i32_863 v1029
  v1030.toNat
def k0_dev36 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_870 : BitVec 32 := 1#32
  let v1039 : BitVec 32 := Scalar.muli v6 c1_i32_870
  let v1040 : BitVec 32 := Scalar.addi c0_i32_871 v1039
  v1040.toNat
def k0_dev37 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_900 : BitVec 32 := 1#32
  let v1075 : BitVec 32 := Scalar.muli v6 c1_i32_900
  let v1076 : BitVec 32 := Scalar.addi c0_i32_901 v1075
  v1076.toNat
def k0_dev38 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_919 : BitVec 32 := 1#32
  let v1095 : BitVec 32 := Scalar.muli v6 c1_i32_919
  let v1096 : BitVec 32 := Scalar.addi c0_i32_920 v1095
  v1096.toNat
def k0_dev39 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_973 : BitVec 32 := 1#32
  let v1165 : BitVec 32 := Scalar.muli v6 c1_i32_973
  let v1166 : BitVec 32 := Scalar.addi c0_i32_974 v1165
  v1166.toNat
def k0_dev40 (d0 : Dev nD) : Nat :=
  let c0_i32_1004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_1003 : BitVec 32 := 1#32
  let v1200 : BitVec 32 := Scalar.muli v6 c1_i32_1003
  let v1201 : BitVec 32 := Scalar.addi c0_i32_1004 v1200
  v1201.toNat
def k0_dev41 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_1033 : BitVec 32 := 1#32
  let v1235 : BitVec 32 := Scalar.muli v6 c1_i32_1033
  let v1236 : BitVec 32 := Scalar.addi c0_i32_1034 v1235
  v1236.toNat
def k0_dev42 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v6 : BitVec 32 := Scalar.xori v2 c4_i32
  let c1_i32_1063 : BitVec 32 := 1#32
  let v1270 : BitVec 32 := Scalar.muli v6 c1_i32_1063
  let v1271 : BitVec 32 := Scalar.addi c0_i32_1064 v1270
  v1271.toNat
def k0_dev43 (d0 : Dev nD) : Nat :=
  let c0_i32_1090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1089 : BitVec 32 := 1#32
  let v1298 : BitVec 32 := Scalar.muli v4 c1_i32_1089
  let v1299 : BitVec 32 := Scalar.addi c0_i32_1090 v1298
  v1299.toNat
def k0_dev44 (d0 : Dev nD) : Nat :=
  let c0_i32_1116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1115 : BitVec 32 := 1#32
  let v1326 : BitVec 32 := Scalar.muli v4 c1_i32_1115
  let v1327 : BitVec 32 := Scalar.addi c0_i32_1116 v1326
  v1327.toNat
def k0_dev45 (d0 : Dev nD) : Nat :=
  let c0_i32_1160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1159 : BitVec 32 := 1#32
  let v1373 : BitVec 32 := Scalar.muli v3 c1_i32_1159
  let v1374 : BitVec 32 := Scalar.addi c0_i32_1160 v1373
  v1374.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x256 : Shape := ⟨2, ![2048, 256]⟩
abbrev S256x4096 : Shape := ⟨2, ![256, 4096]⟩
abbrev S4096x256 : Shape := ⟨2, ![4096, 256]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x256, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x256, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
# The kernel's body as three layers of chunk steps

The printed body is a long sequence of memory operations. Here it is written as a prologue, one layer's sequence of
steps three times over, and an epilogue, each step a definition that ends in the rest of the program:

* `startX` / `startP`: the remote copy of a chunk of the activations, or of a chunk of partial products;
* `awaitX` / `awaitP`: the two waits (send semaphore, then receive semaphore) that end such a copy;
* `mlp`: one chunk of activations through the device's share of the two weight matrices;
* `acc`: a received chunk of partial products added to the device's own.

`body_eq` says that the printed body is this program. The offsets and the devices stay as printed there;
`Topology` reads them.
-/
module

public import proofs.«01_k».proof.Proof.Gen.KernelIdeal.Skeleton

@[expose] public section

noncomputable section

namespace Cert.KernelIdeal.Mlp

open Cert.KernelIdeal.Gen
open Idealize.ShloMosaic Idealize.SL.Sem

variable {F : FTy → Type} [FloatOps F]

/-- A program of a TensorCore of this machine. -/
abbrev Pg (F : FTy → Type) [FloatOps F] : Type 1 := Prog (TpuEff nD τ sig (Elt F) Λ₀ .tc) PUnit

/-- The first row and column of a chunk of 256 rows of a 2048×256 buffer. -/
abbrev Chunk : Type := {o : Fin 2 → Nat // ∀ a, o a + S256x256.size a ≤ S2048x256.size a}

/-- The chunk's rectangle. -/
abbrev chunkR (o : Chunk) : Rect S2048x256 := Rect.unit (s := S2048x256) o.1 S256x256.size o.2

theorem slot_inb (j : Fin 7) : ∀ a, (![256 * j.val, 0] : Fin 2 → Nat) a + S256x256.size a ≤ S1792x256.size a := by
  revert j; decide

/-- The rectangle of receive slot `j`. -/
abbrev slotR (j : Fin 7) : Rect S1792x256 := Rect.unit (s := S1792x256) ![256 * j.val, 0] S256x256.size (slot_inb j)

theorem sem_inb (i : Fin 14) : ∀ a, (![i.val] : Fin 1 → Nat) a + S1.size a ≤ S14.size a := by
  revert i; decide

/-- Semaphore `i` of an array of fourteen. -/
abbrev semAt (A : DmaSems sig S14) (i : Fin 14) : DmaSem sig :=
  ((A.slice (Rect.unit (s := S14) ![i.val] S1.size (sem_inb i))).squeeze S_ squeezes_S1_S_).sem

/-- One chunk `x` through a share `wi`, `wo` of the two weight matrices: `relu (x · wi) · wo`. -/
abbrev mlpV (x : Vec F S256x256 .f32) (wi : Vec F S256x512 .f32) (wo : Vec F S512x256 .f32) : Vec F S256x256 .f32 := k0_pay5 x wi wo

/-- The sum of two chunks. -/
abbrev addV (x y : Vec F S256x256 .f32) : Vec F S256x256 .f32 := k0_pay1 x y

section Steps

variable (xb pb : Memref sig .tc .vmem S2048x256 .f32) (rb : Memref sig .tc .vmem S1792x256 .f32)
  (ss rs : DmaSems sig S14)

/-- The chunk of a 2048×256 buffer. -/
abbrev chunkM (b : Memref sig .tc .vmem S2048x256 .f32) (o : Chunk) : Memref sig .tc .vmem S256x256 .f32 :=
  b.slice (chunkR o) (fun _ => rfl)

/-- Receive slot `j` of the receive buffer. -/
abbrev slotM (b : Memref sig .tc .vmem S1792x256 .f32) (j : Fin 7) : Memref sig .tc .vmem S256x256 .f32 :=
  b.slice (slotR j) (fun _ => rfl)

/-- Copy `i` starts: chunk `o` of the activations to the same chunk on device `d`. -/
def startX (i : Fin 14) (o : Chunk) (d : Dev nD) (k : Pg F) : Pg F :=
  .op (.enqueueDma (chunkM xb o) (.remote (Dev.tc d) (chunkM xb o) (.dma (semAt ss i))) (.dma (semAt rs i))
    (View.wordExact_bits rfl) (View.wordExact_bits rfl) ⟨⟨rfl, Or.inl rfl⟩, trivial⟩) fun _ => k

/-- Copy `i` starts: chunk `o` of the partial products to receive slot `j` on device `d`. -/
def startP (i : Fin 14) (o : Chunk) (j : Fin 7) (d : Dev nD) (k : Pg F) : Pg F :=
  .op (.enqueueDma (chunkM pb o) (.remote (Dev.tc d) (slotM rb j) (.dma (semAt ss i))) (.dma (semAt rs i))
    (View.wordExact_bits rfl) (View.wordExact_bits rfl) ⟨⟨rfl, Or.inl rfl⟩, trivial⟩) fun _ => k

/-- Copy `i` ends, both here (its source may be written again) and as a receiver (the peer's copy `i` has landed). -/
def awaitX (i : Fin 14) (o : Chunk) (k : Pg F) : Pg F :=
  .op (.waitDma2 (semAt ss i) (chunkM xb o) (chunkM xb o) (View.wordExact_bits rfl) (View.wordExact_bits rfl)) fun _ =>
  .op (.waitDma2 (semAt rs i) (chunkM xb o) (chunkM xb o) (View.wordExact_bits rfl) (View.wordExact_bits rfl)) fun _ => k

/-- The same for a copy of partial products. -/
def awaitP (i : Fin 14) (o : Chunk) (j : Fin 7) (k : Pg F) : Pg F :=
  .op (.waitDma2 (semAt ss i) (slotM rb j) (chunkM pb o) (View.wordExact_bits rfl) (View.wordExact_bits rfl)) fun _ =>
  .op (.waitDma2 (semAt rs i) (chunkM pb o) (slotM rb j) (View.wordExact_bits rfl) (View.wordExact_bits rfl)) fun _ => k

/-- Chunk `o` of the activations through the device's weights, into chunk `o` of the partial products. -/
def mlp (wi : Memref sig .tc .vmem S256x512 .f32) (wo : Memref sig .tc .vmem S512x256 .f32) (o : Chunk) (k : Pg F) : Pg F :=
  .op (.load xb (chunkR o).toLoadRect (View.loadsAt_vmem h_S256x256)) fun x =>
  .op (.load wi (Rect.unit (s := S256x512) ![0, 0] S256x512.size inb_S256x512_S256x512_0_0).toLoadRect (View.loadsAt_vmem h_S256x512)) fun v =>
  .op (.load wo (Rect.unit (s := S512x256) ![0, 0] S512x256.size inb_S512x256_S512x256_0_0).toLoadRect (View.loadsAt_vmem h_S512x256)) fun w =>
  .op (.load pb (chunkR o).toLoadRect (View.loadsAt_vmem h_S256x256)) fun _ =>
  .op (.store pb (chunkR o) (mlpV x v w) Finset.univ (View.stores_vmem_bits_univ h_S256x256 rfl) (.inl rfl)) fun _ => k

/-- Receive slot `j` added to chunk `o` of the partial products. -/
def acc (o : Chunk) (j : Fin 7) (k : Pg F) : Pg F :=
  .op (.load pb (chunkR o).toLoadRect (View.loadsAt_vmem h_S256x256)) fun x =>
  .op (.load rb (slotR j).toLoadRect (View.loadsAt_vmem h_S256x256)) fun y =>
  .op (.load pb (chunkR o).toLoadRect (View.loadsAt_vmem h_S256x256)) fun _ =>
  .op (.store pb (chunkR o) (addV x y) Finset.univ (View.stores_vmem_bits_univ h_S256x256 rfl) (.inl rfl)) fun _ => k

/-- The chunk's result becomes the device's activations of the next layer. -/
def carry (o : Chunk) (k : Pg F) : Pg F :=
  .op (.load pb (chunkR o).toLoadRect (View.loadsAt_vmem h_S256x256)) fun x =>
  .op (.load xb (chunkR o).toLoadRect (View.loadsAt_vmem h_S256x256)) fun _ =>
  .op (.store xb (chunkR o) (k0_pay22 x) Finset.univ (View.stores_vmem_bits_univ h_S256x256 rfl) (.inl rfl)) fun _ => k

/-- The device's block of the argument becomes its activations of the first layer. -/
def enter (x : Memref sig .tc .vmem S256x256 .f32) (o : Chunk) (k : Pg F) : Pg F :=
  .op (.load x (Rect.unit (s := S256x256) ![0, 0] S256x256.size inb_S256x256_S256x256_0_0).toLoadRect (View.loadsAt_vmem h_S256x256)) fun v =>
  .op (.load xb (chunkR o).toLoadRect (View.loadsAt_vmem h_S256x256)) fun _ =>
  .op (.store xb (chunkR o) (k0_pay2 v) Finset.univ (View.stores_vmem_bits_univ h_S256x256 rfl) (.inl rfl)) fun _ => k

/-- The device's result becomes its block of the kernel's result. -/
def leave (y : Memref sig .tc .vmem S256x256 .f32) (o : Chunk) (k : Pg F) : Pg F :=
  .op (.load pb (chunkR o).toLoadRect (View.loadsAt_vmem h_S256x256)) fun v =>
  .op (.load y (Rect.unit (s := S256x256) ![0, 0] S256x256.size inb_S256x256_S256x256_0_0).toLoadRect (View.loadsAt_vmem h_S256x256)) fun _ =>
  .op (.store y (Rect.unit (s := S256x256) ![0, 0] S256x256.size inb_S256x256_S256x256_0_0) v Finset.univ (View.stores_vmem_bits_univ h_S256x256 rfl) (.inl rfl)) fun _ => k

/-- The barrier semaphore of the mesh. -/
abbrev barS : Sem sig := (SemArray.scalar (sig.barrier 0 rfl) : Sems sig S_).sem

/-- The handshake: one unit to each of three neighbours, three units from them. -/
def greet (dx dy dz : Dev nD) (k : Pg F) : Pg F :=
  .op (.semSignal (Dev.tc dx) barS (1#32).toNat) fun _ =>
  .op (.semSignal (Dev.tc dy) barS (1#32).toNat) fun _ =>
  .op (.semSignal (Dev.tc dz) barS (1#32).toNat) fun _ =>
  .op (.semWait barS (3#32).toNat) fun _ => k

variable (D V : Fin 8 → Chunk) (dv : Fin 14 → Dev nD)

/-- One layer: the chunks are spread over the mesh while they are multiplied, and the partial products summed back.
    Chunk `q` is the chunk of the device whose number differs from the own by the mask `q`. -/
def layer (wi : Memref sig .tc .vmem S256x512 .f32) (wo : Memref sig .tc .vmem S512x256 .f32) (k : Pg F) : Pg F :=
  startX xb ss rs 0 (D 0) (dv 0) <| startX xb ss rs 1 (D 0) (dv 1) <| startX xb ss rs 3 (D 0) (dv 3) <| mlp xb pb wi wo (V 0) <|
  awaitX xb ss rs 0 (D 0) <| startX xb ss rs 2 (D 1) (dv 2) <| startX xb ss rs 4 (D 1) (dv 4) <| mlp xb pb wi wo (V 1) <|
  awaitX xb ss rs 1 (D 0) <| startX xb ss rs 5 (D 3) (dv 5) <|
  awaitX xb ss rs 2 (D 1) <| startX xb ss rs 6 (D 2) (dv 6) <| mlp xb pb wi wo (V 3) <| mlp xb pb wi wo (V 2) <|
  awaitX xb ss rs 3 (D 0) <| mlp xb pb wi wo (V 4) <| startP pb rb ss rs 7 (D 4) 0 (dv 7) <|
  awaitX xb ss rs 4 (D 1) <| mlp xb pb wi wo (V 5) <| startP pb rb ss rs 8 (D 5) 1 (dv 8) <|
  awaitX xb ss rs 5 (D 3) <| mlp xb pb wi wo (V 7) <| startP pb rb ss rs 9 (D 7) 2 (dv 9) <|
  awaitX xb ss rs 6 (D 2) <| mlp xb pb wi wo (V 6) <| startP pb rb ss rs 10 (D 6) 3 (dv 10) <|
  awaitP pb rb ss rs 9 (D 7) 2 <| acc pb rb (V 3) 2 <| startP pb rb ss rs 11 (D 3) 4 (dv 11) <|
  awaitP pb rb ss rs 10 (D 6) 3 <| acc pb rb (V 2) 3 <| startP pb rb ss rs 12 (D 2) 5 (dv 12) <|
  awaitP pb rb ss rs 8 (D 5) 1 <| acc pb rb (V 1) 1 <|
  awaitP pb rb ss rs 12 (D 2) 5 <| acc pb rb (V 1) 5 <| startP pb rb ss rs 13 (D 1) 6 (dv 13) <|
  awaitP pb rb ss rs 7 (D 4) 0 <| acc pb rb (V 0) 0 <|
  awaitP pb rb ss rs 11 (D 3) 4 <| acc pb rb (V 0) 4 <|
  awaitP pb rb ss rs 13 (D 1) 6 <| acc pb rb (V 0) 6 k

/-- The whole body after the device has read its number. -/
def whole (x0 : Memref sig .tc .vmem S256x256 .f32)
    (wi0 : Memref sig .tc .vmem S256x512 .f32) (wo0 : Memref sig .tc .vmem S512x256 .f32)
    (wi1 : Memref sig .tc .vmem S256x512 .f32) (wo1 : Memref sig .tc .vmem S512x256 .f32)
    (wi2 : Memref sig .tc .vmem S256x512 .f32) (wo2 : Memref sig .tc .vmem S512x256 .f32)
    (y : Memref sig .tc .vmem S256x256 .f32) (dx dy dz : Dev nD) (dv0 dv1 dv2 : Fin 14 → Dev nD) : Pg F :=
  greet dx dy dz <| enter xb x0 (V 0) <|
  layer xb pb rb ss rs D V dv0 wi0 wo0 <| carry xb pb (V 0) <|
  layer xb pb rb ss rs D V dv1 wi1 wo1 <| carry xb pb (V 0) <|
  layer xb pb rb ss rs D V dv2 wi2 wo2 <| leave pb y (V 0) (.ret ⟨⟩)

end Steps

/-- The printed offset of the chunk of mask `q`, as the copies compute it. -/
def copyOff (d : Dev nD) : Fin 8 → Chunk :=
  ![⟨k0_off2 d, k0_off2_inb d⟩, ⟨k0_off3 d 1#32, k0_off3_inb d 0⟩, ⟨k0_off3 d 2#32, k0_off3_inb d 1⟩, ⟨k0_off3 d 3#32, k0_off3_inb d 2⟩,
    ⟨k0_off3 d 4#32, k0_off3_inb d 3⟩, ⟨k0_off6 d 1#32, k0_off6_inb d 0⟩, ⟨k0_off6 d 2#32, k0_off6_inb d 1⟩, ⟨k0_off6 d 3#32, k0_off6_inb d 2⟩]

/-- The printed offset of the chunk of mask `q`, as the loads and stores compute it. -/
def vecOff (d : Dev nD) : Fin 8 → Chunk :=
  ![⟨k0_off1 d, k0_off1_inb d⟩, ⟨k0_off4 d 1#32, k0_off4_inb d 0⟩, ⟨k0_off4 d 2#32, k0_off4_inb d 1⟩, ⟨k0_off4 d 3#32, k0_off4_inb d 2⟩,
    ⟨k0_off4 d 4#32, k0_off4_inb d 3⟩, ⟨k0_off5 d 1#32, k0_off5_inb d 0⟩, ⟨k0_off5 d 2#32, k0_off5_inb d 1⟩, ⟨k0_off5 d 3#32, k0_off5_inb d 2⟩]

/-- The printed device numbers of layer 0's fourteen copies. -/
def peers0 (d : Dev nD) : Fin 14 → Dev nD :=
  ![⟨k0_dev4 d, k0_dev4_lt d⟩,
    ⟨k0_dev5 d, k0_dev5_lt d⟩,
    ⟨k0_dev7 d, k0_dev7_lt d⟩,
    ⟨k0_dev6 d, k0_dev6_lt d⟩,
    ⟨k0_dev8 d, k0_dev8_lt d⟩,
    ⟨k0_dev9 d, k0_dev9_lt d⟩,
    ⟨k0_dev10 d, k0_dev10_lt d⟩,
    ⟨k0_dev11 d, k0_dev11_lt d⟩,
    ⟨k0_dev12 d, k0_dev12_lt d⟩,
    ⟨k0_dev13 d, k0_dev13_lt d⟩,
    ⟨k0_dev14 d, k0_dev14_lt d⟩,
    ⟨k0_dev15 d, k0_dev15_lt d⟩,
    ⟨k0_dev16 d, k0_dev16_lt d⟩,
    ⟨k0_dev17 d, k0_dev17_lt d⟩]

/-- The printed device numbers of layer 1's fourteen copies. -/
def peers1 (d : Dev nD) : Fin 14 → Dev nD :=
  ![⟨k0_dev18 d, k0_dev18_lt d⟩,
    ⟨k0_dev19 d, k0_dev19_lt d⟩,
    ⟨k0_dev21 d, k0_dev21_lt d⟩,
    ⟨k0_dev20 d, k0_dev20_lt d⟩,
    ⟨k0_dev22 d, k0_dev22_lt d⟩,
    ⟨k0_dev23 d, k0_dev23_lt d⟩,
    ⟨k0_dev24 d, k0_dev24_lt d⟩,
    ⟨k0_dev25 d, k0_dev25_lt d⟩,
    ⟨k0_dev26 d, k0_dev26_lt d⟩,
    ⟨k0_dev27 d, k0_dev27_lt d⟩,
    ⟨k0_dev28 d, k0_dev28_lt d⟩,
    ⟨k0_dev29 d, k0_dev29_lt d⟩,
    ⟨k0_dev30 d, k0_dev30_lt d⟩,
    ⟨k0_dev31 d, k0_dev31_lt d⟩]

/-- The printed device numbers of layer 2's fourteen copies. -/
def peers2 (d : Dev nD) : Fin 14 → Dev nD :=
  ![⟨k0_dev32 d, k0_dev32_lt d⟩,
    ⟨k0_dev33 d, k0_dev33_lt d⟩,
    ⟨k0_dev35 d, k0_dev35_lt d⟩,
    ⟨k0_dev34 d, k0_dev34_lt d⟩,
    ⟨k0_dev36 d, k0_dev36_lt d⟩,
    ⟨k0_dev37 d, k0_dev37_lt d⟩,
    ⟨k0_dev38 d, k0_dev38_lt d⟩,
    ⟨k0_dev39 d, k0_dev39_lt d⟩,
    ⟨k0_dev40 d, k0_dev40_lt d⟩,
    ⟨k0_dev41 d, k0_dev41_lt d⟩,
    ⟨k0_dev42 d, k0_dev42_lt d⟩,
    ⟨k0_dev43 d, k0_dev43_lt d⟩,
    ⟨k0_dev44 d, k0_dev44_lt d⟩,
    ⟨k0_dev45 d, k0_dev45_lt d⟩]

set_option maxRecDepth 65536 in
set_option maxHeartbeats 4000000 in
/-- The printed body is the three layers: both unfold to the same sequence of operations. -/
theorem body_eq
    (a0 : Memref sig .tc .vmem S256x256 .f32) (h0 : a0.IsWhole)
    (a1 : Memref sig .tc .vmem S256x512 .f32) (h1 : a1.IsWhole)
    (a2 : Memref sig .tc .vmem S512x256 .f32) (h2 : a2.IsWhole)
    (a3 : Memref sig .tc .vmem S256x512 .f32) (h3 : a3.IsWhole)
    (a4 : Memref sig .tc .vmem S512x256 .f32) (h4 : a4.IsWhole)
    (a5 : Memref sig .tc .vmem S256x512 .f32) (h5 : a5.IsWhole)
    (a6 : Memref sig .tc .vmem S512x256 .f32) (h6 : a6.IsWhole)
    (a7 : Memref sig .tc .vmem S256x256 .f32) (h7 : a7.IsWhole)
    (a8 : Memref sig .tc .vmem S2048x256 .f32) (h8 : a8.IsWhole)
    (a9 : Memref sig .tc .vmem S2048x256 .f32) (h9 : a9.IsWhole)
    (a10 : Memref sig .tc .vmem S1792x256 .f32) (h10 : a10.IsWhole)
    (ss rs : DmaSems sig S14) :
    cc0_body (F := F) a0 h0 a1 h1 a2 h2 a3 h3 a4 h4 a5 h5 a6 h6 a7 h7 a8 h8 a9 h9 a10 h10 ss rs
      = .op .deviceId fun d => whole a8 a9 a10 ss rs (copyOff d) (vecOff d) a0 a1 a2 a3 a4 a5 a6 a7
          ⟨k0_dev1 d, k0_dev1_lt d⟩ ⟨k0_dev2 d, k0_dev2_lt d⟩ ⟨k0_dev3 d, k0_dev3_lt d⟩ (peers0 d) (peers1 d) (peers2 d) := by
  rfl

end Cert.KernelIdeal.Mlp

end
-- ==== Proof.Topology.lean ====
/-
# The mesh as a cube

The eight devices are the corners of a cube: a device's neighbour by the mask `q` is the device whose number differs
from its own by the bits of `q`. Here the offsets and the device numbers the printed body computes are read in these
terms: chunk `q` of device `c` begins at row `256 · (c xor q)`, and copy `k` goes to the neighbour by `hop k`.
-/
module

public import proofs.«01_k».proof.Proof.Program

@[expose] public section

noncomputable section

namespace Cert.KernelIdeal.Mlp

open Cert.KernelIdeal.Gen
open Idealize.ShloMosaic Idealize.SL.Sem

variable {F : FTy → Type} [FloatOps F]

/-- The neighbour of device `c` by the mask `q`. -/
def nb (c : Dev nD) (q : Fin 8) : Dev nD := ⟨(c.val ^^^ q.val) % 8, Nat.mod_lt _ (by decide)⟩

theorem nb_zero (c : Dev nD) : nb c 0 = c := by revert c; decide
theorem nb_nb (c : Dev nD) (q : Fin 8) : nb (nb c q) q = c := by revert c q; decide
theorem nb_comm (c : Dev nD) (p q : Fin 8) : nb (nb c p) q = nb (nb c q) p := by revert c p q; decide

theorem nb_inj (c : Dev nD) {p q : Fin 8} (h : nb c p = nb c q) : p = q := by revert c p q; decide

/-- Moving by a mask permutes the devices. -/
def nbEquiv (q : Fin 8) : Dev nD ≃ Dev nD := ⟨fun c => nb c q, fun c => nb c q, fun c => nb_nb c q, fun c => nb_nb c q⟩

/-- The masks number the devices, seen from a device. -/
def maskEquiv (c : Dev nD) : Fin 8 ≃ Dev nD :=
  ⟨fun q => nb c q, fun d => ⟨(nb c ⟨d.val, d.isLt⟩).val, (nb c ⟨d.val, d.isLt⟩).isLt⟩, fun q => by revert c q; decide, fun d => by revert c d; decide⟩

theorem chunkAt_inb (d : Dev nD) : ∀ a, (![256 * d.val, 0] : Fin 2 → Nat) a + S256x256.size a ≤ S2048x256.size a := by
  revert d; decide

/-- The chunk of device `d`: rows `256 · d` to `256 · d + 255`. -/
def chunkAt (d : Dev nD) : Chunk := ⟨![256 * d.val, 0], chunkAt_inb d⟩

/-- The chunk of mask `q` seen from device `c`. -/
abbrev ch (c : Dev nD) (q : Fin 8) : Chunk := chunkAt (nb c q)

/-- Copy `k`'s hop: the mask from the sender to the receiver (and back). Copies 0 to 6 spread activations (0 along x;
    1, 2 along y; 3 to 6 along z), copies 7 to 13 bring partial products back (7 to 10 along z; 11, 12 along y; 13 along x). -/
def hop : Fin 14 → Fin 8 := ![1, 3, 3, 4, 4, 4, 4, 4, 4, 4, 4, 3, 3, 1]

/-- The mask, seen from the sender, of the chunk copy `k` sends. -/
def msk : Fin 14 → Fin 8 := ![0, 0, 1, 0, 1, 3, 2, 4, 5, 7, 6, 3, 2, 1]

set_option maxRecDepth 8192 in
theorem copyOff_eq (d : Dev nD) : copyOff d = ch d :=
  funext fun q => Subtype.ext (by revert d q; decide)

set_option maxRecDepth 8192 in
theorem vecOff_eq (d : Dev nD) : vecOff d = ch d :=
  funext fun q => Subtype.ext (by revert d q; decide)

set_option maxRecDepth 8192 in
theorem peers0_eq (d : Dev nD) : peers0 d = fun k => nb d (hop k) := funext fun k => by revert d k; decide
set_option maxRecDepth 8192 in
theorem peers1_eq (d : Dev nD) : peers1 d = fun k => nb d (hop k) := funext fun k => by revert d k; decide
set_option maxRecDepth 8192 in
theorem peers2_eq (d : Dev nD) : peers2 d = fun k => nb d (hop k) := funext fun k => by revert d k; decide
theorem greet_x (d : Dev nD) : (⟨k0_dev1 d, k0_dev1_lt d⟩ : Dev nD) = nb d 1 := by revert d; decide
theorem greet_y (d : Dev nD) : (⟨k0_dev2 d, k0_dev2_lt d⟩ : Dev nD) = nb d 3 := by revert d; decide
theorem greet_z (d : Dev nD) : (⟨k0_dev3 d, k0_dev3_lt d⟩ : Dev nD) = nb d 4 := by revert d; decide

/-- The copy that goes the other way between the same two devices and over the same place: its room is handed over
    with copy `k`'s landing. -/
def rev : Fin 14 → Fin 14 := ![13, 11, 12, 7, 8, 9, 10, 3, 4, 5, 6, 1, 2, 0]

theorem rev_rev (k : Fin 14) : rev (rev k) = k := by revert k; decide
theorem hop_rev (k : Fin 14) : hop (rev k) = hop k := by revert k; decide

/-- The mask of copy `k`'s chunk, seen from its receiver. -/
theorem nb_hop_msk (c : Dev nD) (k : Fin 14) : nb (nb c (hop k)) (msk (rev k)) = nb c (msk k) := by
  revert c k; decide

end Cert.KernelIdeal.Mlp
-- ==== Proof.Contents.lean ====
/-
# What the buffers hold

Every chunk a device holds during a layer has one of five values, by how far the layer has come with it: the
activations; the device's partial product of them; and that partial product summed over the pair of devices along z,
over the four in a plane, over all eight. `lev` names them. `sent` is what each copy carries.
-/
module

public import proofs.«01_k».proof.Proof.Topology

@[expose] public section

noncomputable section

namespace Cert.KernelIdeal.Mlp

open Cert.KernelIdeal.Gen
open Idealize.ShloMosaic Idealize.SL.Sem

variable {F : FTy → Type} [FloatOps F]

/-- A chunk's contents. -/
abbrev Vx (F : FTy → Type) : Type := Vec F S256x256 .f32

/-- The kernel's inputs: on each device its block of the activations and, for each layer, its shares of the weights. -/
structure Inputs (F : FTy → Type) where
  /-- The device's rows of the activations. -/
  x : Dev nD → Vx F
  /-- The device's columns of the layer's first weight matrix. -/
  wi : ℕ → Dev nD → Vec F S256x512 .f32
  /-- The device's rows of the layer's second weight matrix. -/
  wo : ℕ → Dev nD → Vec F S512x256 .f32

/-- The mask of the neighbour whose sums are added at fold `n`: along z, then along y, then along x. -/
def fold : ℕ → Fin 8
  | 0 => 4
  | 1 => 3
  | _ + 2 => 1

/-- The values of chunk `q` on device `s` during a layer with activations `a` and weights `wi`, `wo`: the activations,
    the device's partial product, and its sums after each fold. -/
def folds (a : Dev nD → Vx F) (wi : Dev nD → Vec F S256x512 .f32) (wo : Dev nD → Vec F S512x256 .f32) :
    ℕ → Dev nD → Dev nD → Vx F
  | 0, _, q => a q
  | 1, s, q => mlpV (a q) (wi s) (wo s)
  | n + 2, s, q => addV (folds a wi wo (n + 1) s q) (folds a wi wo (n + 1) (nb s (fold n)) q)

variable (I : Inputs F)

/-- The activations before layer `l`, by chunk. -/
def act : ℕ → Dev nD → Vx F
  | 0 => fun q => k0_pay2 (I.x q)
  | l + 1 => fun q => k0_pay22 (folds (act l) (I.wi l) (I.wo l) 4 q q)

/-- The value of chunk `q` on device `s` in layer `l`, after `i` of the layer's five stages. -/
def lev (l i : ℕ) (s q : Dev nD) : Vx F := folds (act I l) (I.wi l) (I.wo l) i s q

theorem lev_zero (l : ℕ) (s q : Dev nD) : lev I l 0 s q = act I l q := rfl
theorem lev_one (l : ℕ) (s q : Dev nD) : lev I l 1 s q = mlpV (act I l q) (I.wi l s) (I.wo l s) := rfl
theorem lev_succ (l n : ℕ) (s q : Dev nD) : lev I l (n + 2) s q = addV (lev I l (n + 1) s q) (lev I l (n + 1) (nb s (fold n)) q) := rfl
theorem act_succ (l : ℕ) (q : Dev nD) : act I (l + 1) q = k0_pay22 (lev I l 4 q q) := rfl

/-- The stage of the chunk that copy `k` carries. -/
def stage : Fin 14 → ℕ := ![0, 0, 0, 0, 0, 0, 0, 1, 1, 1, 1, 2, 2, 3]

/-- What copy `k` of layer `l` carries from device `s`. -/
def sent (l : ℕ) (s : Dev nD) (k : Fin 14) : Vx F := lev I l (stage k) s (nb s (msk k))

/-- The kernel's result on device `q`. -/
def result (q : Dev nD) : Vx F := lev I 2 4 q q

end Cert.KernelIdeal.Mlp
-- ==== Proof.Schedule.lean ====
/-
# The protocol

Each device has a barrier cell, and for each of the fourteen copies of a layer a send cell and a receive cell.

* A send cell's round `l` is paid by the device's own copy of layer `l`: it gives the copy's source back.
* A receive cell's round `l` is paid by the peer's copy: it gives the landed chunk, and the right to make the copy that
  goes the other way over the same place (`rev`). A right is the destination's room on the peer, and that the peer has
  reached that copy's round. The copies of activations give the right to return the partial product of the chunk in the
  same layer; the copies of partial products give the right to spread the activations of the next layer.
* The barrier cell's only round has one duty for each of the three neighbours: they give the rights to spread the
  activations of the first layer.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- A duty of a round: a barrier round has one for each neighbour, the others one. -/
abbrev Duty : Type := Fin 3

abbrev UB : Type := URounds (GSem nD τ sig) Duty
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The buffers and the cells -/

/-- The activations, the partial products, the receive slots. -/
abbrev xbM : Memref sig .tc .vmem S2048x256 .f32 := Memref.whole cc0_scratch0
abbrev pbM : Memref sig .tc .vmem S2048x256 .f32 := Memref.whole cc0_scratch1
abbrev rbM : Memref sig .tc .vmem S1792x256 .f32 := Memref.whole cc0_scratch2

abbrev sendS (k : Fin 14) : DmaSem sig := semAt cc0_scratch3 k
abbrev recvS (k : Fin 14) : DmaSem sig := semAt cc0_scratch4 k

abbrev barCell (c : Dev nD) : GSem nD τ sig := ((c : Thread nD τ), .reg barS)
abbrev sendCell (c : Dev nD) (k : Fin 14) : GSem nD τ sig := ((c : Thread nD τ), .dma (sendS k))
abbrev recvCell (c : Dev nD) (k : Fin 14) : GSem nD τ sig := ((c : Thread nD τ), .dma (recvS k))

/-- The part a semaphore plays. -/
inductive Role where
  | bar
  | send (k : Fin 14)
  | recv (k : Fin 14)
  | other

/-- The part of a transfer semaphore, by its number. -/
def roleDma (q : DmaSem sig) : Role :=
  if q.val < 8 then .other else if q.val < 22 then .send ⟨(q.val - 8) % 14, Nat.mod_lt _ (by decide)⟩
  else .recv ⟨(q.val - 22) % 14, Nat.mod_lt _ (by decide)⟩

/-- The part of a counting semaphore. -/
def roleReg (q : Sem sig) : Role := if q = barS then .bar else .other

/-- The part of each semaphore of the machine. -/
def role : SemLoc sig → Role
  | .reg q => roleReg q
  | .dma q => roleDma q

theorem role_bar : role (.reg barS) = .bar := by
  show roleReg barS = _; unfold roleReg; exact if_pos rfl
theorem sendS_val (k : Fin 14) : (sendS k).val = 8 + k.val := by revert k; decide
theorem recvS_val (k : Fin 14) : (recvS k).val = 22 + k.val := by revert k; decide
theorem role_send (k : Fin 14) : role (.dma (sendS k)) = .send k := by
  have := sendS_val k
  show roleDma (sendS k) = _
  unfold roleDma
  rw [if_neg (by omega), if_pos (by omega)]
  exact congrArg _ (Fin.ext (by show ((sendS k).val - 8) % 14 = k.val; omega))
theorem role_recv (k : Fin 14) : role (.dma (recvS k)) = .recv k := by
  have := recvS_val k
  show roleDma (recvS k) = _
  unfold roleDma
  rw [if_neg (by omega), if_neg (by omega)]
  exact congrArg _ (Fin.ext (by show ((recvS k).val - 22) % 14 = k.val; omega))

/-- The units one copy of a chunk credits. -/
abbrev N : ℕ := (chunkM xbM (chunkAt 0)).view.dmaCredit
theorem N_pos : 0 < N := View.dmaCredit_pos _ (by decide)

/-- Device `c` holds a share of the chunk `q` of its activations, with contents `X`. -/
def xq (c q : Dev nD) (sh : PosShare TreeShare) (X : Vx F) : sProp 𝕄 := ownsTc c (chunkM xbM (chunkAt q)) sh X
/-- The same of its partial products, held whole. -/
def pq (c q : Dev nD) (X : Vx F) : sProp 𝕄 := ownsTc c (chunkM pbM (chunkAt q)) fullShare X
/-- The same of its receive slot `j`. -/
def rq (c : Dev nD) (j : Fin 7) (X : Vx F) : sProp 𝕄 := ownsTc c (slotM rbM j) fullShare X

instance xq_storable (c q : Dev nD) (sh : PosShare TreeShare) (X : Vx F) : BI.Storable (upEmb : UEmb _ 𝕄) (xq c q sh X) := by unfold xq; infer_instance
instance pq_storable (c q : Dev nD) (X : Vx F) : BI.Storable (upEmb : UEmb _ 𝕄) (pq c q X) := by unfold pq; infer_instance
instance rq_storable (c : Dev nD) (j : Fin 7) (X : Vx F) : BI.Storable (upEmb : UEmb _ 𝕄) (rq c j X) := by unfold rq; infer_instance

/-- The receive slot of copy `k`, for the copies of partial products. -/
def slotOf (k : Fin 14) : Fin 7 := ⟨(k.val - 7) % 7, Nat.mod_lt _ (by decide)⟩

/-- The share of its source a copy of activations takes: the chunk is read by other copies and by the products at the
    same time. -/
def shr : Fin 14 → PosShare TreeShare :=
  ![fullShare.left, fullShare.right.left, fullShare.left, fullShare.right.right.left, fullShare.right.left, fullShare.left, fullShare.left,
    fullShare, fullShare, fullShare, fullShare, fullShare, fullShare, fullShare]

/-- Copy `k`'s room on its receiver `r` when the sender is `s`. -/
def land (k : Fin 14) (s r : Dev nD) (X : Vx F) : sProp 𝕄 :=
  if k.val < 7 then xq r (nb s (msk k)) fullShare X else rq r (slotOf k) X

/-- What copy `k` takes of its source on device `c`. -/
def source (k : Fin 14) (c : Dev nD) (X : Vx F) : sProp 𝕄 :=
  if k.val < 7 then xq c (nb c (msk k)) (shr k) X else pq c (nb c (msk k)) X

instance land_storable (k : Fin 14) (s r : Dev nD) (X : Vx F) : BI.Storable (upEmb : UEmb _ 𝕄) (land k s r X) := by
  unfold land; split <;> infer_instance
instance source_storable (k : Fin 14) (c : Dev nD) (X : Vx F) : BI.Storable (upEmb : UEmb _ 𝕄) (source k c X) := by
  unfold source; split <;> infer_instance

/-- Device `c` may make copy `k` of layer `n`: it holds the room on its peer, which has reached that round. -/
def right (k : Fin 14) (c : Dev nD) (n : ℕ) : sProp 𝕄 :=
  iprop((∃ X, land k c (nb c (hop k)) X) ∗ reached ER (recvCell (nb c (hop k)) k) n)

instance right_storable (k : Fin 14) (c : Dev nD) (n : ℕ) : BI.Storable (upEmb : UEmb _ 𝕄) (right (F := F) k c n) := by
  unfold right; infer_instance

/-- The right that comes to device `c` with the landing of copy `k` of layer `l`. -/
def grant (k : Fin 14) (c : Dev nD) (l : ℕ) : sProp 𝕄 :=
  if k.val < 7 then right (rev k) c l else if l < 2 then right (rev k) c (l + 1) else iprop(emp)

instance grant_storable (k : Fin 14) (c : Dev nD) (l : ℕ) : BI.Storable (upEmb : UEmb _ 𝕄) (grant (F := F) k c l) := by
  unfold grant; (repeat' split) <;> infer_instance

/-- What a neighbour's signal gives device `c`: the rights to spread the first layer's activations that way. -/
def barPay (c : Dev nD) : Duty → sProp 𝕄
  | 0 => right 0 c 0
  | 1 => iprop(right 1 c 0 ∗ right 2 c 0)
  | 2 => iprop(right 3 c 0 ∗ right 4 c 0 ∗ right 5 c 0 ∗ right 6 c 0)

instance barPay_storable (c : Dev nD) (d : Duty) : BI.Storable (upEmb : UEmb _ 𝕄) (barPay (F := F) c d) := by
  match d with
  | 0 => unfold barPay; infer_instance
  | 1 => unfold barPay; infer_instance
  | 2 => unfold barPay; infer_instance

variable (I : Inputs F)

/-- What copy `k` of layer `l` gives its receiver `c`. -/
def recvPay (c : Dev nD) (k : Fin 14) (l : ℕ) : sProp 𝕄 :=
  iprop(land k (nb c (hop k)) c (sent I l (nb c (hop k)) k) ∗ grant k c l)

/-- What copy `k` of layer `l` gives back to its sender `c`. -/
def sendPay (c : Dev nD) (k : Fin 14) (l : ℕ) : sProp 𝕄 := source k c (sent I l c k)

instance recvPay_storable (c : Dev nD) (k : Fin 14) (l : ℕ) : BI.Storable (upEmb : UEmb _ 𝕄) (recvPay I c k l) := by
  unfold recvPay; infer_instance
instance sendPay_storable (c : Dev nD) (k : Fin 14) (l : ℕ) : BI.Storable (upEmb : UEmb _ 𝕄) (sendPay I c k l) := by
  unfold sendPay; infer_instance

/-- The duties of round `r` of a semaphore by its part. -/
def dutiesOf : Role → ℕ → Finset Duty
  | .bar, r => if r = 0 then Finset.univ else ∅
  | .send _, r => if r < 3 then {0} else ∅
  | .recv _, r => if r < 3 then {0} else ∅
  | .other, _ => ∅

def amountOf : Role → ℕ
  | .bar => 1
  | _ => N

def payOf (c : Dev nD) : Role → ℕ → Duty → sProp 𝕄
  | .bar, _, d => barPay c d
  | .send k, l, _ => sendPay I c k l
  | .recv k, l, _ => recvPay I c k l
  | .other, _, _ => iprop(emp)

/-- The schedule of every cell. -/
def sched : Rounds.Schedule (GSem nD τ sig) Duty 𝕄 where
  duties g r := if g.1.2 = .tc then dutiesOf (role g.2) r else ∅
  unitless _ := False
  amount g _ _ := amountOf (role g.2)
  payload g r d := payOf I g.1.1 (role g.2) r d
  amount_pos g _ _ _ := by
    show 0 < amountOf (role g.2)
    cases role g.2
    · exact Nat.one_pos
    · exact N_pos
    · exact N_pos
    · exact N_pos

instance sched_storable (g : GSem nD τ sig) (r : ℕ) (d : Duty) : BI.Storable (upEmb : UEmb _ 𝕄) ((sched I).payload g r d) := by
  show BI.Storable upEmb (payOf I g.1.1 (role g.2) r d)
  cases role g.2 <;> (unfold payOf; infer_instance)

section Facts
variable (c : Dev nD) (k : Fin 14) (r : ℕ)

theorem duties_tc (sm : SemLoc sig) : (sched I).duties ((c : Thread nD τ), sm) r = dutiesOf (role sm) r := by
  dsimp only [sched]; exact if_pos rfl
theorem duties_bar : (sched I).duties (barCell c) 0 = Finset.univ := by
  rw [duties_tc, role_bar]; rfl
theorem duties_send (h : r < 3) : (sched I).duties (sendCell c k) r = {0} := by
  rw [duties_tc, role_send]; exact if_pos h
theorem duties_recv (h : r < 3) : (sched I).duties (recvCell c k) r = {0} := by
  rw [duties_tc, role_recv]; exact if_pos h
theorem duties_later (g : GSem nD τ sig) : ∀ r, 3 ≤ r → (sched I).duties g r = ∅ := fun r hr => by
  dsimp only [sched]
  split
  · cases role g.2 <;> unfold dutiesOf <;> first | exact if_neg (by omega) | rfl
  · rfl
theorem duties_bar_later : ∀ r, 1 ≤ r → (sched I).duties (barCell c) r = ∅ := fun r hr => by
  rw [duties_tc, role_bar]; exact if_neg (by omega)

theorem amount_bar (d : Duty) : (sched I).amount (barCell c) r d = 1 := by
  show amountOf (role (.reg barS)) = 1; rw [role_bar]; rfl
theorem amount_send (d : Duty) : (sched I).amount (sendCell c k) r d = N := by
  show amountOf (role (.dma (sendS k))) = N; rw [role_send]; rfl
theorem amount_recv (d : Duty) : (sched I).amount (recvCell c k) r d = N := by
  show amountOf (role (.dma (recvS k))) = N; rw [role_recv]; rfl

theorem payload_bar (d : Duty) : (sched I).payload (barCell c) r d = barPay c d := by
  show payOf I c (role (.reg barS)) r d = _; rw [role_bar]; rfl
theorem payload_send (d : Duty) : (sched I).payload (sendCell c k) r d = sendPay I c k r := by
  show payOf I c (role (.dma (sendS k))) r d = _; rw [role_send]; rfl
theorem payload_recv (d : Duty) : (sched I).payload (recvCell c k) r d = recvPay I c k r := by
  show payOf I c (role (.dma (recvS k))) r d = _; rw [role_recv]; rfl

theorem expect_bar : (sched I).expect (barCell c) 0 = 3 := by
  unfold Schedule.expect Schedule.amountOf
  rw [duties_bar, Finset.sum_congr rfl fun d _ => amount_bar I c 0 d]; rfl
theorem expect_send (h : r < 3) : (sched I).expect (sendCell c k) r = N := by
  unfold Schedule.expect Schedule.amountOf; rw [duties_send I c k r h, Finset.sum_singleton, amount_send]
theorem expect_recv (h : r < 3) : (sched I).expect (recvCell c k) r = N := by
  unfold Schedule.expect Schedule.amountOf; rw [duties_recv I c k r h, Finset.sum_singleton, amount_recv]

theorem rest_bar : bigSep ((sched I).duties (barCell c) 0 \ ∅) (fun d => (sched I).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send (h : r < 3) : bigSep ((sched I).duties (sendCell c k) r \ ∅) (fun d => (sched I).payload (sendCell c k) r d)
    = sendPay I c k r := by
  rw [Finset.sdiff_empty, duties_send I c k r h, bigSep_singleton, payload_send]
theorem rest_recv (h : r < 3) : bigSep ((sched I).duties (recvCell c k) r \ ∅) (fun d => (sched I).payload (recvCell c k) r d)
    = recvPay I c k r := by
  rw [Finset.sdiff_empty, duties_recv I c k r h, bigSep_singleton, payload_recv]

end Facts

/-! ## What a device owes, and the levels -/

/-- A copy's place in the order in which a layer makes them. -/
def pos : Fin 14 → ℕ := ![0, 1, 3, 2, 4, 5, 6, 7, 8, 9, 10, 11, 12, 13]

/-- The copy at place `i` of that order, over all layers. -/
def seqOf (i : ℕ) : Fin 14 := (![0, 1, 3, 2, 4, 5, 6, 7, 8, 9, 10, 11, 12, 13] : Fin 14 → Fin 14) ⟨i % 14, Nat.mod_lt _ (by decide)⟩

theorem pos_lt (k : Fin 14) : pos k < 14 := by revert k; decide
theorem pos_seq (i : Fin 14) : pos ((![0, 1, 3, 2, 4, 5, 6, 7, 8, 9, 10, 11, 12, 13] : Fin 14 → Fin 14) i) = i.val := by revert i; decide
theorem pos_seqOf (i : ℕ) : pos (seqOf i) = i % 14 := pos_seq _
theorem pos_inj {k k' : Fin 14} (h : pos k = pos k') : k = k' := by revert k k'; decide
theorem seqOf_pos (l : ℕ) (k : Fin 14) : seqOf (14 * l + pos k) = k := by
  have := pos_lt k
  exact pos_inj (by rw [pos_seqOf]; omega)

/-- The units of place `i`'s copy, owed to its receiver. -/
def unit (c : Dev nD) (i : ℕ) : CellTallies nD τ sig ℕ := tallyAt (recvCell (nb c (hop (seqOf i))) (seqOf i)) (i / 14) N

/-- What device `c` owes once it has made `n` copies. -/
def owed (c : Dev nD) (n : ℕ) : CellTallies nD τ sig ℕ := ∑ i ∈ Finset.Ico n 42, unit c i

theorem owed_step (c : Dev nD) (k : Fin 14) (l : ℕ) (hl : l < 3) :
    owed c (14 * l + pos k) = owed c (14 * l + pos k + 1) + tallyAt (recvCell (nb c (hop k)) k) l N := by
  have := pos_lt k
  unfold owed
  rw [show Finset.Ico (14 * l + pos k) 42 = insert (14 * l + pos k) (Finset.Ico (14 * l + pos k + 1) 42) by
      ext i; simp only [Finset.mem_Ico, Finset.mem_insert]; omega,
    Finset.sum_insert (by simp only [Finset.mem_Ico]; omega), add_comm]
  unfold unit
  rw [seqOf_pos, show (14 * l + pos k) / 14 = l by omega]

theorem owed_end (c : Dev nD) : owed c 42 = 0 := by unfold owed; rw [Finset.Ico_self, Finset.sum_empty]

theorem owed_pos {c : Dev nD} {n : ℕ} {g : GSem nD τ sig} {u : ℕ} (h : 0 < owed c n g u) :
    ∃ i, n ≤ i ∧ i < 42 ∧ g = recvCell (nb c (hop (seqOf i))) (seqOf i) ∧ u = i / 14 := by
  by_contra hn
  refine absurd h (Nat.not_lt.mpr (Nat.le_of_eq ?_))
  unfold owed
  rw [Finset.sum_apply, Finsupp.finsetSum_apply]
  refine Finset.sum_eq_zero fun i hi => ?_
  unfold unit
  rw [tallyAt_apply]
  rw [Finset.mem_Ico] at hi
  exact if_neg fun h' => hn ⟨i, hi.1, hi.2, h'.1, h'.2⟩

/-- The indices of a cell: the three layers. -/
def L (g : GSem nD τ sig) : Finset ℕ := if g.1.2 = .tc then Finset.range 3 else ∅

/-- Barrier cells at 1; the receive cells above, in the order of their copies; everything else at 0. -/
def lvOf : Role → ℕ → ℕ
  | .bar, _ => 1
  | .recv k, u => 2 + (14 * u + pos k)
  | _, _ => 0
def lv (g : GSem nD τ sig) (u : ℕ) : ℕ := lvOf (role g.2) u

theorem L_of_ne (g : GSem nD τ sig) (h : g.1.2 ≠ .tc) : L g = ∅ := if_neg h
theorem mem_L (c : Dev nD) (sm : SemLoc sig) {u : ℕ} (h : u < 3) : u ∈ L ((c : Thread nD τ), sm) := by
  unfold L; rw [if_pos rfl]; exact Finset.mem_range.mpr h

theorem lv_recv (c : Dev nD) (k : Fin 14) (u : ℕ) : lv (recvCell c k) u = 2 + (14 * u + pos k) := by
  show lvOf (role (.dma (recvS k))) u = _; rw [role_recv]; rfl
theorem lv_send (c : Dev nD) (k : Fin 14) (u : ℕ) : lv (sendCell c k) u = 0 := by
  show lvOf (role (.dma (sendS k))) u = _; rw [role_send]; rfl
theorem lv_bar (c : Dev nD) (u : ℕ) : lv (barCell c) u = 1 := by
  show lvOf (role (.reg barS)) u = _; rw [role_bar]; rfl

theorem owed_lv {c : Dev nD} {n : ℕ} {g : GSem nD τ sig} {u : ℕ} (h : 0 < owed c n g u) : u ∈ L g ∧ 2 + n ≤ lv g u := by
  obtain ⟨i, hn, hi, rfl, rfl⟩ := owed_pos h
  exact ⟨mem_L _ _ (by omega), by rw [lv_recv, pos_seqOf]; omega⟩

/-- A device that has made `n` copies may wait for anything of a level below theirs. -/
theorem mayWait_owed (c : Dev nD) (n : ℕ) (sm : SemLoc sig) (u : ℕ) (hu : u < 3) (h : lv ((c : Thread nD τ), sm) u < 2 + n) :
    (levAts L lv : sProp 𝕄) ⊢ MayWait (c : Thread nD τ) sm u (owed c n) :=
  MayOwe.of_cut (L := L) (lev := lv) (1 + n)
    (fun p hp => by rw [Finset.mem_singleton.mp hp]; exact mem_L c sm hu)
    (fun g v hg => (owed_lv hg).1)
    (fun p hp => by rw [Finset.mem_singleton.mp hp]; show lv ((c : Thread nD τ), sm) u ≤ 1 + n; omega)
    (fun g v hg => by have := (owed_lv hg).2; omega)

/-- The send cell of copy `k`, once it has been made. -/
theorem mayWait_send (c : Dev nD) (k : Fin 14) (l n : ℕ) (hl : l < 3) :
    (levAts L lv : sProp 𝕄) ⊢ MayWait (c : Thread nD τ) (.dma (sendS k)) l (owed c n) :=
  mayWait_owed c n _ l hl (by rw [lv_send]; omega)

/-- The receive cell of copy `k` of layer `l`, once the device has made its own. -/
theorem mayWait_recv (c : Dev nD) (k : Fin 14) (l n : ℕ) (hl : l < 3) (h : 14 * l + pos k < n) :
    (levAts L lv : sProp 𝕄) ⊢ MayWait (c : Thread nD τ) (.dma (recvS k)) l (owed c n) :=
  mayWait_owed c n _ l hl (by rw [lv_recv]; omega)

/-- The barrier cell, once the device owes copies alone. -/
theorem mayWait_bar (c : Dev nD) :
    (levAts L lv : sProp 𝕄) ⊢ MayWait (c : Thread nD τ) (.reg barS) 0 (owed c 0) :=
  mayWait_owed c 0 _ 0 (by decide) (by rw [lv_bar]; omega)

end Cert.KernelIdeal.Mlp
-- ==== Proof.Memory.lean ====
/-
# Loads and stores of held pieces

A device that holds a rectangle of a buffer, and knows what it reads there, loads it and stores over it. From these the
five steps of the body that touch no semaphore.
-/
module

public import proofs.«01_k».proof.Proof.Schedule

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No procedure of this program recurses. -/
abbrev 𝒱₀ : Variants := Variants.none

/-- Device `c` runs `P` and ends as `Q` says. -/
abbrev runs (c : Dev nD) (P : Pg F) (Q : PUnit → sProp 𝕄) : sProp 𝕄 :=
  wp frame (wpE (defs₀ (F := F)) 𝒱₀ (c : Thread nD τ) none) Set.univ P Q

variable (c : Dev nD) (Q : PUnit.{1} → sProp (MT nD τ sig ℕ (Elt F) ℕ UU ℕ))

section Rules
variable {s : Shape} (m : Memref sig .tc .vmem s .f32) (r : Rect s) (hr : ∀ a, r.stride a = 1)

theorem load_held {hl : m.view.LoadsAt r.toLoadRect} (sh : PosShare TreeShare) (X : Vec F r.shape .f32) (k : Vec F r.shape .f32 → Pg F) :
    (ownsTc c (m.slice r hr) sh X : sProp 𝕄)
      ⊢ iprop((ownsTc c (m.slice r hr) sh X -∗ runs c (k X) Q) -∗ runs c (.op (.load m r.toLoadRect hl) k) Q) := by
  unfold ownsTc owns
  iintro ⟨%f, %hf, H⟩ Hk
  iapply (wp_load 𝒱₀ (c : Thread nD τ) none Set.univ (m := m) (r := r.toLoadRect) (S := (m.view.slice r).set) (View.set_slice _ r).ge) $$ H
  iintro H
  rw [View.readAt_rect, show (m.view.slice r).read (Elt F) f = X from hf]
  iapply Hk
  iexists f; isplitr
  · ipureintro; exact hf
  · iexact H

theorem store_held {w : Vec F r.shape .f32} {hx : (m.access r).Stores Finset.univ} {hm} (X : Vec F r.shape .f32) (k : PUnit → Pg F) :
    (ownsTc c (m.slice r hr) fullShare X : sProp 𝕄)
      ⊢ iprop((ownsTc c (m.slice r hr) fullShare w -∗ runs c (k ⟨⟩) Q) -∗ runs c (.op (.store m r w Finset.univ hx hm) k) Q) := by
  unfold ownsTc owns
  iintro ⟨%f, %hf, H⟩ Hk
  iapply (wp_store 𝒱₀ (c : Thread nD τ) none Set.univ (m := m) (r := r) (Mk := Finset.univ) (S := (m.view.slice r).set) subset_rfl) $$ H
  iintro H
  iapply Hk
  iexists ((m.access r).write (Elt F) f w Finset.univ); isplitr
  · ipureintro; exact View.read_write_univ _ _
  · iexact H

/-- A load of everything. -/
theorem load_all {off : Fin s.rank → Nat} (h : off = fun _ => 0) (inb : ∀ a, off a + s.size a ≤ s.size a)
    {hl : m.view.LoadsAt (Rect.unit off s.size inb).toLoadRect} (sh : PosShare TreeShare) (X : Vec F s .f32) (k : Vec F s .f32 → Pg F) :
    (ownsTc c m sh X : sProp 𝕄)
      ⊢ iprop((ownsTc c m sh X -∗ runs c (k X) Q) -∗ runs c (.op (.load m (Rect.unit off s.size inb).toLoadRect hl) k) Q) := by
  subst h
  unfold ownsTc owns
  iintro ⟨%f, %hf, H⟩ Hk
  iapply (wp_load 𝒱₀ (c : Thread nD τ) none Set.univ (m := m) (r := (Rect.whole s).toLoadRect) (S := m.view.set)
    (Finset.map_subset_map.mpr (Finset.subset_univ _))) $$ H
  iintro H
  have e : m.view.readAt (Elt F) (Rect.whole s).toLoadRect f = X := by
    rw [← hf]; funext x
    rw [View.readAt_apply]
    exact congrArg _ (Rect.emb_whole_apply s x)
  rw [e]
  iapply Hk
  iexists f; isplitr
  · ipureintro; exact hf
  · iexact H

/-- A store over everything. -/
theorem store_all {off : Fin s.rank → Nat} (h : off = fun _ => 0) (inb : ∀ a, off a + s.size a ≤ s.size a)
    {w : Vec F s .f32} {hx : (m.access (Rect.unit off s.size inb)).Stores Finset.univ} {hm} (X : Vec F s .f32) (k : PUnit → Pg F) :
    (ownsTc c m fullShare X : sProp 𝕄)
      ⊢ iprop((ownsTc c m fullShare w -∗ runs c (k ⟨⟩) Q) -∗ runs c (.op (.store m (Rect.unit off s.size inb) w Finset.univ hx hm) k) Q) := by
  subst h
  unfold ownsTc owns
  iintro ⟨%f, %hf, H⟩ Hk
  iapply (wp_store 𝒱₀ (c : Thread nD τ) none Set.univ (m := m) (r := Rect.whole s) (Mk := Finset.univ) (S := m.view.set)
    (View.set_slice_subset _ _)) $$ H
  iintro H
  iapply Hk
  iexists ((m.access (Rect.whole s)).write (Elt F) f w Finset.univ); isplitr
  · ipureintro; funext x
    have e : (m.view.slice (Rect.whole s)).read (Elt F) ((m.access (Rect.whole s)).write (Elt F) f w Finset.univ) x = w x :=
      congrFun (View.read_write_univ _ _) x
    rw [← e, View.read_apply, View.read_apply, show (m.view.slice (Rect.whole s)).emb x = m.view.emb ((Rect.whole s).emb x) from rfl, Rect.emb_whole_apply]
  · iexact H

end Rules

/-! ## The steps without a semaphore -/

variable (q : Dev nD) (k : Pg F)

/-- The product step: chunk `q` of the partial products holds `Z = relu (X · V) · W`. -/
theorem mlp_step (wi : Memref sig .tc .vmem S256x512 .f32) (wo : Memref sig .tc .vmem S512x256 .f32) (sh s₁ s₂ : PosShare TreeShare)
    (X Y Z : Vx F) (V : Vec F S256x512 .f32) (W : Vec F S512x256 .f32) (hZ : mlpV X V W = Z) :
    (xq c q sh X : sProp 𝕄)
      ⊢ iprop(ownsTc c wi s₁ V -∗ ownsTc c wo s₂ W -∗ pq c q Y
        -∗ ((xq c q sh X ∗ ownsTc c wi s₁ V ∗ ownsTc c wo s₂ W ∗ pq c q Z) -∗ runs c k Q)
        -∗ runs c (mlp xbM pbM wi wo (chunkAt q) k) Q) := by
  subst hZ
  unfold xq pq mlp
  iintro Hx Hi Ho Hp Hk
  iapply (load_held c Q xbM (chunkR (chunkAt q)) (fun _ => rfl) sh X) $$ Hx
  iintro Hx
  iapply (load_all c Q wi (by decide) _ s₁ V) $$ Hi
  iintro Hi
  iapply (load_all c Q wo (by decide) _ s₂ W) $$ Ho
  iintro Ho
  iapply (load_held c Q pbM (chunkR (chunkAt q)) (fun _ => rfl) fullShare Y) $$ Hp
  iintro Hp
  iapply (store_held c Q pbM (chunkR (chunkAt q)) (fun _ => rfl) Y) $$ Hp
  iintro Hp
  iapply Hk
  iframe

/-- The sum step: slot `j` is added to chunk `q` of the partial products. -/
theorem acc_step (j : Fin 7) (X Y Z : Vx F) (hZ : addV X Y = Z) :
    (pq c q X : sProp 𝕄)
      ⊢ iprop(rq c j Y -∗ ((pq c q Z ∗ rq c j Y) -∗ runs c k Q) -∗ runs c (acc pbM rbM (chunkAt q) j k) Q) := by
  subst hZ
  unfold pq rq acc
  iintro Hp Hr Hk
  iapply (load_held c Q pbM (chunkR (chunkAt q)) (fun _ => rfl) fullShare X) $$ Hp
  iintro Hp
  iapply (load_held c Q rbM (slotR j) (fun _ => rfl) fullShare Y) $$ Hr
  iintro Hr
  iapply (load_held c Q pbM (chunkR (chunkAt q)) (fun _ => rfl) fullShare X) $$ Hp
  iintro Hp
  iapply (store_held c Q pbM (chunkR (chunkAt q)) (fun _ => rfl) X) $$ Hp
  iintro Hp
  iapply Hk
  iframe

/-- Between layers: the device's sum becomes its activations. -/
theorem carry_step (X Y : Vx F) :
    (pq c q X : sProp 𝕄)
      ⊢ iprop(xq c q fullShare Y -∗ ((pq c q X ∗ xq c q fullShare (k0_pay22 X)) -∗ runs c k Q)
        -∗ runs c (carry xbM pbM (chunkAt q) k) Q) := by
  unfold pq xq carry
  iintro Hp Hx Hk
  iapply (load_held c Q pbM (chunkR (chunkAt q)) (fun _ => rfl) fullShare X) $$ Hp
  iintro Hp
  iapply (load_held c Q xbM (chunkR (chunkAt q)) (fun _ => rfl) fullShare Y) $$ Hx
  iintro Hx
  iapply (store_held c Q xbM (chunkR (chunkAt q)) (fun _ => rfl) Y) $$ Hx
  iintro Hx
  iapply Hk
  iframe

/-- At the start: the device's block of the argument becomes its activations. -/
theorem enter_step (x : Memref sig .tc .vmem S256x256 .f32) (sh : PosShare TreeShare) (X Y : Vx F) :
    (ownsTc c x sh X : sProp 𝕄)
      ⊢ iprop(xq c q fullShare Y -∗ ((ownsTc c x sh X ∗ xq c q fullShare (k0_pay2 X)) -∗ runs c k Q)
        -∗ runs c (enter xbM x (chunkAt q) k) Q) := by
  unfold xq enter
  iintro Hp Hx Hk
  iapply (load_all c Q x (by decide) _ sh X) $$ Hp
  iintro Hp
  iapply (load_held c Q xbM (chunkR (chunkAt q)) (fun _ => rfl) fullShare Y) $$ Hx
  iintro Hx
  iapply (store_held c Q xbM (chunkR (chunkAt q)) (fun _ => rfl) Y) $$ Hx
  iintro Hx
  iapply Hk
  iframe

/-- At the end: the device's sum becomes its block of the result. -/
theorem leave_step (y : Memref sig .tc .vmem S256x256 .f32) (X Y : Vx F) :
    (pq c q X : sProp 𝕄)
      ⊢ iprop(ownsTc c y fullShare Y -∗ ((pq c q X ∗ ownsTc c y fullShare X) -∗ runs c k Q)
        -∗ runs c (leave pbM y (chunkAt q) k) Q) := by
  unfold pq leave
  iintro Hp Hy Hk
  iapply (load_held c Q pbM (chunkR (chunkAt q)) (fun _ => rfl) fullShare X) $$ Hp
  iintro Hp
  iapply (load_all c Q y (by decide) _ fullShare Y) $$ Hy
  iintro Hy
  iapply (store_all c Q y (by decide) _ Y) $$ Hy
  iintro Hy
  iapply Hk
  iframe

end Cert.KernelIdeal.Mlp
-- ==== Proof.Transfer.lean ====
/-
# The copies

How a device starts a copy and how it waits for one, for every copy of every layer at once. `ghost c k l` is what a
device keeps for copy `k` before layer `l`: its places in the copy's two cells, and for every layer to come the duties
it pays with and the receive credit; `flying c k l` is the same while the copy of layer `l` is under way.
-/
module

public import proofs.«01_k».proof.Proof.Memory

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A device's cells: the barrier cell, the send cells (`false`) and the receive cells (`true`). -/
abbrev Cell : Type := Option (Bool × Fin 14)

/-- The semaphore of a transfer cell. -/
abbrev osem (x : Bool × Fin 14) : SemLoc sig := if x.1 then .dma (recvS x.2) else .dma (sendS x.2)
/-- The semaphore of a cell. -/
abbrev csem : Cell → SemLoc sig
  | none => .reg barS
  | some x => osem x
abbrev gcell (x : Dev nD × Cell) : GSem nD τ sig := ((x.1 : Thread nD τ), csem x.2)

variable (I : Inputs F) (K : Dev nD × Cell → ℕ)

/-- Every cell's invariant, under the names `K`. -/
def records : sProp 𝕄 := bigSep Finset.univ fun x : Dev nD × Cell => cellInv ER (sched I) (K x) (gcell x)

instance records_persistent : BI.Persistent (records I K) := by unfold records; infer_instance

theorem records_bar (c : Dev nD) : records I K ⊢ cellInv ER (sched I) (K (c, none)) (barCell c) :=
  BI.bigSep_elim (i := (c, none)) (Finset.mem_univ _)
theorem records_send (c : Dev nD) (k : Fin 14) : records I K ⊢ cellInv ER (sched I) (K (c, some (false, k))) (sendCell c k) :=
  BI.bigSep_elim (i := (c, some (false, k))) (Finset.mem_univ _)
theorem records_recv (c : Dev nD) (k : Fin 14) : records I K ⊢ cellInv ER (sched I) (K (c, some (true, k))) (recvCell c k) :=
  BI.bigSep_elim (i := (c, some (true, k))) (Finset.mem_univ _)

/-- What every device knows throughout. -/
def known : sProp 𝕄 := iprop(records I K ∗ levAts L lv)

instance known_persistent : BI.Persistent (known I K) := by unfold known; infer_instance

/-- For copy `k` of every layer from `l` on: the duty of the device's own send cell, the duty of the peer's receive cell,
    and the credit the device's own receive cell will pay. -/
def future (c : Dev nD) (k : Fin 14) (l : ℕ) : sProp 𝕄 :=
  bigSep (Finset.Ico l 3) fun r => iprop(dutyTok ER (sendCell c k) r 0 ∗ dutyTok ER (recvCell (nb c (hop k)) k) r 0
    ∗ cred (tallyAt (recvCell c k) r N))

theorem future_succ (c : Dev nD) (k : Fin 14) (l : ℕ) (hl : l < 3) : (future c k l : sProp 𝕄)
    = iprop((dutyTok ER (sendCell c k) l 0 ∗ dutyTok ER (recvCell (nb c (hop k)) k) l 0 ∗ cred (tallyAt (recvCell c k) l N)) ∗ future c k (l + 1)) := by
  unfold future
  rw [show Finset.Ico l 3 = insert l (Finset.Ico (l + 1) 3) by
      ext i; simp only [Finset.mem_Ico, Finset.mem_insert]; omega,
    bigSep_insert (by simp only [Finset.mem_Ico]; omega)]
  rfl

/-- What device `c` keeps for copy `k` before layer `l`. -/
def ghost (c : Dev nD) (k : Fin 14) (l : ℕ) : sProp 𝕄 :=
  iprop(atPos ER (sendCell c k) l ∅ 0 ∗ atPos ER (recvCell c k) l ∅ 0 ∗ reached ER (sendCell c k) l ∗ reached ER (recvCell c k) l
    ∗ future c k l)

theorem ghost_reached (c : Dev nD) (k : Fin 14) (l : ℕ) : (ghost c k l : sProp 𝕄) ⊢ iprop(reached ER (recvCell c k) l ∗ ghost c k l) := by
  unfold ghost
  iintro ⟨HaS, HaR, #HrS, #HrR, Hf⟩
  iframe HrR HaS HaR HrS Hf

/-- What device `c` keeps for copy `k` while that of layer `l` is under way. -/
def flying (c : Dev nD) (k : Fin 14) (l : ℕ) : sProp 𝕄 :=
  iprop(atPos ER (sendCell c k) l ∅ 0 ∗ atPos ER (recvCell c k) l ∅ 0 ∗ cred (tallyAt (recvCell c k) l N)
    ∗ cred (tallyAt (sendCell c k) l N) ∗ future c k (l + 1))

/-- What device `c` owes once it has made `n` copies, whatever it has waited for. -/
def debt (c : Dev nD) (n : ℕ) : sProp 𝕄 := iprop(∃ W, owes (c : Thread nD τ) (owed c n) W)

variable (c : Dev nD) (Q : PUnit.{1} → sProp (MT nD τ sig ℕ (Elt F) ℕ UU ℕ))

theorem start_core (k : Fin 14) (l : ℕ) (hl : l < 3)
    {src : Memref sig .tc .vmem S256x256 .f32} {dst : Memref sig .tc .vmem S256x256 .f32}
    {hsc : dst.view.ref.isScScratch = false}
    {hsrc : src.view.WordExact} {hdst : dst.view.WordExact}
    {hsem : DmaTarget.Typed .vmem (.dma (recvS k)) (.remote (Dev.tc (nb c (hop k)) : Thread nD τ) dst (.dma (sendS k)) hsc)}
    (hN : dst.view.amount (.dma (recvS k)) = N) (sh : PosShare TreeShare) (Y : Vx F)
    (hs : (ownsTc c src sh (sent I l c k) : sProp 𝕄) ⊢ source k c (sent I l c k))
    (hd : (ownsTc (nb c (hop k)) dst fullShare (sent I l c k) : sProp 𝕄) ⊢ land k c (nb c (hop k)) (sent I l c k))
    (P : PUnit → Pg F) :
    known I K ⊢ iprop(ghost c k l -∗ ownsTc c src sh (sent I l c k) -∗ ownsTc (nb c (hop k)) dst fullShare Y
      -∗ reached ER (recvCell (nb c (hop k)) k) l -∗ grant k (nb c (hop k)) l -∗ debt c (14 * l + pos k)
      -∗ ((flying c k l ∗ debt c (14 * l + pos k + 1)) -∗ runs c (P ⟨⟩) Q)
      -∗ runs c (.op (.enqueueDma src (.remote (Dev.tc (nb c (hop k)) : Thread nD τ) dst (.dma (sendS k)) hsc) (.dma (recvS k)) hsrc hdst hsem) P) Q) := by
  unfold known ghost debt
  rw [future_succ c k l hl]
  unfold ownsTc owns
  iintro ⟨#HI, #Hlev⟩ ⟨HaS, HaR, #HrS, -, ⟨HtS, HtR, HcR⟩, Hf⟩ ⟨%f, %hf, Hs⟩ ⟨%g, %hg, Hd⟩ #HrR Hg ⟨%W, HO⟩ Hk
  ihave #HIs := (records_send I K c k) $$ HI
  ihave #HIr := (records_recv I K (nb c (hop k)) k) $$ HI
  iapply (Rounds.wp_send_pointsTo_with 𝒱₀ ER (sched I) (c : Thread nD τ) none (κ₁ := K (c, some (false, k))) (κ₂ := K (nb c (hop k), some (true, k)))
    (r₁ := l) (r₂ := l) (d₁ := 0) (d₂ := 0) (fs := f) (fd := g) (F := grant k (nb c (hop k)) l)
    (by rw [duties_send I c k l hl]; exact Finset.mem_singleton_self _)
    (by rw [duties_recv I (nb c (hop k)) k l hl]; exact Finset.mem_singleton_self _)
    l l N hN (amount_send I c k l 0) (amount_recv I (nb c (hop k)) k l 0) (owed c (14 * l + pos k + 1)) (owed_step c k l hl) (W := W)
    (by
      rw [payload_send]; unfold sendPay
      refine BIBase.Entails.trans ?_ hs
      unfold ownsTc; rw [← hf]; exact owns_intro _ _ _ _)
    (by
      rw [payload_recv]; unfold recvPay; rw [nb_nb]
      refine sep_mono_left (BIBase.Entails.trans ?_ hd)
      rw [hf]
      unfold ownsTc owns
      iintro H
      iexists (dst.view.write (Elt F) g (sent I l c k) Finset.univ); isplitr
      · ipureintro; exact View.read_write_univ _ _
      · iexact H)) $$ [Hs Hd Hg HO HtS HtR]
  · isplitr; · iexact HIs
    isplitr; · iexact HIr
    isplitl [Hs]; · iexact Hs
    isplitl [Hd Hg]
    · isplitl [Hd]; · iexact Hd
      iexact Hg
    isplitl [HO]; · iexact HO
    isplitl [HtS]; · iexact HtS
    isplitr; · iexact HrS
    isplitl [HtR]; · iexact HtR
    iexact HrR
  iintro ⟨HcS, HO⟩
  iapply Hk
  unfold flying
  iframe HaS HaR HcR HcS Hf
  iexists W
  iexact HO

theorem await_core (k : Fin 14) (l n : ℕ) (hl : l < 3) (hn : 14 * l + pos k < n)
    {m₁ m₂ m₃ m₄ : Memref sig .tc .vmem S256x256 .f32} {h₁ : m₁.view.WordExact} {h₂ : m₂.view.WordExact}
    {h₃ : m₃.view.WordExact} {h₄ : m₄.view.WordExact} (e₂ : m₂.view.dmaCredit = N) (e₄ : m₄.view.dmaCredit = N) (P : Pg F) :
    known I K ⊢ iprop(flying c k l -∗ debt c n
      -∗ ((ghost c k (l + 1) ∗ debt c n ∗ sendPay I c k l ∗ recvPay I c k l) -∗ runs c P Q)
      -∗ runs c (.op (.waitDma2 (sendS k) m₁ m₂ h₁ h₂) fun _ => .op (.waitDma2 (recvS k) m₃ m₄ h₃ h₄) fun _ => P) Q) := by
  unfold known flying debt
  iintro ⟨#HI, #Hlev⟩ ⟨HaS, HaR, HcR, HcS, Hf⟩ ⟨%W, HO⟩ Hk
  ihave #HIs := (records_send I K c k) $$ HI
  ihave #HIr := (records_recv I K c k) $$ HI
  iapply (Rounds.wp_wait_rest_token 𝒱₀ ER (sched I) (c : Thread nD τ) none (κ := K (c, some (false, k)))
    (wpE_waitDma2_eq 𝒱₀ (c : Thread nD τ) none Set.univ) (Set.mem_univ _) l (O := owed c n) (W := W) (R := l) (m := 0) (T := ∅)
    (by rw [Nat.zero_add, expect_send I c k l hl, e₂])) $$ [HcS HO HaS]
  · isplitr; · iexact HIs
    isplitl [HcS]; · rw [e₂]; iexact HcS
    isplitl [HO]; · iexact HO
    isplitr; · iapply (mayWait_send c k l n hl); iexact Hlev
    iexact HaS
  iintro ⟨HO, HaS, #HrS, Hpay⟩
  ihave Hs := (Entails.of_eq (rest_send I c k l hl)) $$ Hpay
  iapply (Rounds.wp_wait_rest_token 𝒱₀ ER (sched I) (c : Thread nD τ) none (κ := K (c, some (true, k)))
    (wpE_waitDma2_eq 𝒱₀ (c : Thread nD τ) none Set.univ) (Set.mem_univ _) l (O := owed c n) (W := insert (SemLoc.dma (sendS k), l) W)
    (R := l) (m := 0) (T := ∅) (by rw [Nat.zero_add, expect_recv I c k l hl, e₄])) $$ [HcR HO HaR]
  · isplitr; · iexact HIr
    isplitl [HcR]; · rw [e₄]; iexact HcR
    isplitl [HO]; · iexact HO
    isplitr; · iapply (mayWait_recv c k l n hl hn); iexact Hlev
    iexact HaR
  iintro ⟨HO, HaR, #HrR, Hpay⟩
  ihave Hr := (Entails.of_eq (rest_recv I c k l hl)) $$ Hpay
  iapply Hk
  unfold ghost
  iframe HaS HaR HrS HrR Hf Hs Hr
  iexists _
  iexact HO

/-! ## The four steps, by the masks of the chunks

The masks, the slot and the hop of a copy are arguments with their equations, so that a use names them as literals. -/

theorem stage_lo {k : Fin 14} (hk : k.val < 7) : stage k = 0 := by revert k; decide
theorem rev_lo {k : Fin 14} (hk : k.val < 7) : ¬ (rev k).val < 7 := by revert k; decide
theorem rev_hi {k : Fin 14} (hk : ¬ k.val < 7) : (rev k).val < 7 := by revert k; decide

theorem land_lo {k : Fin 14} (hk : k.val < 7) (s r : Dev nD) (X : Vx F) : (land k s r X : sProp 𝕄) = xq r (nb s (msk k)) fullShare X := if_pos hk
theorem land_hi {k : Fin 14} (hk : ¬ k.val < 7) (s r : Dev nD) (X : Vx F) : (land k s r X : sProp 𝕄) = rq r (slotOf k) X := if_neg hk
theorem source_lo {k : Fin 14} (hk : k.val < 7) (c : Dev nD) (X : Vx F) : (source k c X : sProp 𝕄) = xq c (nb c (msk k)) (shr k) X := if_pos hk
theorem source_hi {k : Fin 14} (hk : ¬ k.val < 7) (c : Dev nD) (X : Vx F) : (source k c X : sProp 𝕄) = pq c (nb c (msk k)) X := if_neg hk

theorem sent_lo {k : Fin 14} (hk : k.val < 7) (l : ℕ) : sent I l c k = act I l (nb c (msk k)) := by
  unfold sent; rw [stage_lo hk, lev_zero]

/-- The mask of copy `k`'s chunk, from its receiver. -/
theorem nb_hop_rev (k : Fin 14) : nb (nb c (hop k)) (msk k) = nb c (msk (rev k)) := by
  have := nb_hop_msk c (rev k)
  rwa [hop_rev, rev_rev] at this

/-- What lands at `c`, seen from `c`. -/
theorem sent_peer (k : Fin 14) (l : ℕ) : sent I l (nb c (hop k)) k = lev I l (stage k) (nb c (hop k)) (nb c (msk (rev k))) := by
  unfold sent
  rw [nb_hop_rev]

/-- The right to make copy `j` of the next layer, if there is one. -/
def next (j : Fin 14) (c : Dev nD) (l : ℕ) : sProp 𝕄 := if l < 2 then right j c (l + 1) else iprop(emp)

/-- The chunk `q` of the activations stays with device `c` in the last layer. -/
def kept (c q : Dev nD) (l : ℕ) : sProp 𝕄 := if l < 2 then iprop(emp) else iprop(∃ X, xq c q fullShare X)

/-- What the sender of an activation chunk hands over: its slot for the partial product of that chunk. -/
theorem grant_lo {k : Fin 14} (hk : k.val < 7) (l : ℕ) : (grant k (nb c (hop k)) l : sProp 𝕄)
    = iprop((∃ X, rq c (slotOf (rev k)) X) ∗ reached ER (recvCell c (rev k)) l) := by
  unfold grant right
  rw [if_pos hk, hop_rev, nb_nb]
  simp only [land_hi (rev_lo hk)]

/-- What the sender of a partial product hands over, before the last layer: its chunk of the activations. -/
theorem grant_hi {k : Fin 14} (hk : ¬ k.val < 7) {l : ℕ} (hl : l < 2) : (grant k (nb c (hop k)) l : sProp 𝕄)
    = iprop((∃ X, xq c (nb c (msk k)) fullShare X) ∗ reached ER (recvCell c (rev k)) (l + 1)) := by
  unfold grant right
  rw [if_neg hk, if_pos hl, hop_rev, nb_nb]
  simp only [land_lo (rev_hi hk), nb_hop_msk]

theorem grant_last {k : Fin 14} (hk : ¬ k.val < 7) {l : ℕ} (hl : ¬ l < 2) : (grant k (nb c (hop k)) l : sProp 𝕄) = iprop(emp) := by
  unfold grant
  rw [if_neg hk, if_neg hl]

theorem xq_split (q : Dev nD) (sh : PosShare TreeShare) (X : Vx F) : (xq c q sh X : sProp 𝕄) ⊢ iprop(xq c q sh.left X ∗ xq c q sh.right X) := by
  unfold xq; exact (owns_halves _ _ _ X).1
theorem xq_join (q : Dev nD) (sh : PosShare TreeShare) (X : Vx F) : (xq c q sh.left X : sProp 𝕄) ⊢ iprop(xq c q sh.right X -∗ xq c q sh X) := by
  unfold xq
  iintro H1 H2
  iapply (owns_halves _ _ _ X).2
  iframe

theorem startX_step (k : Fin 14) (hk : k.val < 7) (l n n' : ℕ) (hl : l < 3) (hn : 14 * l + pos k = n)
    (hn' : 14 * l + pos k + 1 = n') (j : Fin 14) (hj : rev k = j)
    (p : Fin 8) (hp : msk k = p) (sh : PosShare TreeShare) (hsh : shr k = sh) (t : Fin 7) (ht : slotOf j = t)
    (d : Dev nD) (hd : nb c (hop k) = d) (P : Pg F) :
    known I K ⊢ iprop(right k c l -∗ ghost c k l -∗ reached ER (recvCell c j) l -∗ xq c (nb c p) sh (act I l (nb c p))
      -∗ (∃ Y, rq c t Y) -∗ debt c n -∗ ((flying c k l ∗ debt c n') -∗ runs c P Q)
      -∗ runs c (startX xbM cc0_scratch3 cc0_scratch4 k (ch c p) d P) Q) := by
  subst hn hn' hj hp hsh ht hd
  unfold startX right
  simp only [land_lo hk]
  unfold xq
  rw [← sent_lo I c hk l]
  iintro #HK ⟨⟨%Y, Hd⟩, #Hr⟩ Hg #Hrj Hs ⟨%Z, Hq⟩ HO Hk
  iapply (start_core I K c Q k l hl (src := chunkM xbM (ch c (msk k))) (dst := chunkM xbM (ch c (msk k))) rfl (shr k) Y
    (by rw [source_lo hk]; exact BIBase.Entails.rfl) (by rw [land_lo hk]; exact BIBase.Entails.rfl) (fun _ => P)) $$ HK Hg Hs Hd Hr [Hq] HO Hk
  rw [grant_lo c hk]
  isplitl [Hq]
  · iexists Z; iexact Hq
  · iexact Hrj

theorem startP_step (k : Fin 14) (hk : ¬ k.val < 7) (l n n' : ℕ) (hl : l < 3) (hn : 14 * l + pos k = n)
    (hn' : 14 * l + pos k + 1 = n') (j : Fin 14) (hj : rev k = j)
    (p : Fin 8) (hp : msk k = p) (i : ℕ) (hi : stage k = i) (t : Fin 7) (ht : slotOf k = t)
    (d : Dev nD) (hd : nb c (hop k) = d) (P : Pg F) :
    known I K ⊢ iprop(right k c l -∗ ghost c k l -∗ reached ER (recvCell c j) (l + 1) -∗ pq c (nb c p) (lev I l i c (nb c p))
      -∗ (∃ Y, xq c (nb c p) fullShare Y) -∗ debt c n -∗ ((flying c k l ∗ kept c (nb c p) l ∗ debt c n') -∗ runs c P Q)
      -∗ runs c (startP pbM rbM cc0_scratch3 cc0_scratch4 k (ch c p) t d P) Q) := by
  subst hn hn' hj hp hi ht hd
  unfold startP right kept
  simp only [land_hi hk]
  have eS : lev I l (stage k) c (nb c (msk k)) = sent I l c k := rfl
  unfold pq rq
  rw [eS]
  iintro #HK ⟨⟨%Y, Hd⟩, #Hr⟩ Hg #Hrj Hs Hq HO Hk
  by_cases h2 : l < 2
  · iapply (start_core I K c Q k l hl (src := chunkM pbM (ch c (msk k))) (dst := slotM rbM (slotOf k)) rfl fullShare Y
      (by rw [source_hi hk]; exact BIBase.Entails.rfl) (by rw [land_hi hk]; exact BIBase.Entails.rfl) (fun _ => P)) $$ HK Hg Hs Hd Hr [Hq] HO
    · rw [grant_hi c hk h2]
      isplitl [Hq]; · iexact Hq
      iexact Hrj
    · iintro ⟨Hf, HO⟩
      iapply Hk
      rw [if_pos h2]
      iframe
  · iapply (start_core I K c Q k l hl (src := chunkM pbM (ch c (msk k))) (dst := slotM rbM (slotOf k)) rfl fullShare Y
      (by rw [source_hi hk]; exact BIBase.Entails.rfl) (by rw [land_hi hk]; exact BIBase.Entails.rfl) (fun _ => P)) $$ HK Hg Hs Hd Hr [] HO
    · rw [grant_last c hk h2]
      iempintro
    · iintro ⟨Hf, HO⟩
      iapply Hk
      rw [if_neg h2]
      iframe

theorem awaitX_step (k : Fin 14) (hk : k.val < 7) (l n a : ℕ) (hl : l < 3) (ha : pos k = a) (hn : 14 * l + a < n)
    (j : Fin 14) (hj : rev k = j)
    (p : Fin 8) (hp : msk k = p) (sh : PosShare TreeShare) (hsh : shr k = sh) (p' : Fin 8) (hp' : msk j = p') (P : Pg F) :
    known I K ⊢ iprop(flying c k l -∗ debt c n
      -∗ ((ghost c k (l + 1) ∗ debt c n ∗ xq c (nb c p) sh (act I l (nb c p)) ∗ xq c (nb c p') fullShare (act I l (nb c p')) ∗ right j c l)
        -∗ runs c P Q)
      -∗ runs c (awaitX xbM cc0_scratch3 cc0_scratch4 k (ch c p) P) Q) := by
  subst ha hj hp hsh hp'
  have eS : sendPay I c k l = xq c (nb c (msk k)) (shr k) (act I l (nb c (msk k))) := by
    unfold sendPay; rw [source_lo hk, sent_lo I c hk]
  have eR : recvPay I c k l = iprop(xq c (nb c (msk (rev k))) fullShare (act I l (nb c (msk (rev k)))) ∗ right (rev k) c l) := by
    unfold recvPay grant
    rw [land_lo hk, if_pos hk, sent_peer, stage_lo hk, lev_zero, nb_hop_rev]
  unfold awaitX
  iintro #HK Hf HO Hk
  iapply (await_core I K c Q k l n hl hn (m₂ := chunkM xbM (ch c (msk k))) (m₄ := chunkM xbM (ch c (msk k))) rfl rfl P) $$ HK Hf HO
  iintro ⟨Hg, HO, Hs, Hr⟩
  ihave Hs' := (Entails.of_eq eS) $$ Hs
  ihave Hr' := (Entails.of_eq eR) $$ Hr
  icases Hr' with ⟨Hr, Hj⟩
  iapply Hk
  iframe

theorem awaitP_step (k : Fin 14) (hk : ¬ k.val < 7) (l n a : ℕ) (hl : l < 3) (ha : pos k = a) (hn : 14 * l + a < n)
    (j : Fin 14) (hj : rev k = j)
    (p : Fin 8) (hp : msk k = p) (i : ℕ) (hi : stage k = i) (t : Fin 7) (ht : slotOf k = t) (h : Fin 8) (hh : hop k = h)
    (p' : Fin 8) (hp' : msk j = p') (P : Pg F) :
    known I K ⊢ iprop(flying c k l -∗ debt c n
      -∗ ((ghost c k (l + 1) ∗ debt c n ∗ pq c (nb c p) (lev I l i c (nb c p)) ∗ rq c t (lev I l i (nb c h) (nb c p')) ∗ next j c l)
        -∗ runs c P Q)
      -∗ runs c (awaitP pbM rbM cc0_scratch3 cc0_scratch4 k (ch c p) t P) Q) := by
  subst ha hj hp hi ht hh hp'
  have eS : sendPay I c k l = pq c (nb c (msk k)) (lev I l (stage k) c (nb c (msk k))) := by
    unfold sendPay; rw [source_hi hk]; rfl
  have eR : recvPay I c k l
      = iprop(rq c (slotOf k) (lev I l (stage k) (nb c (hop k)) (nb c (msk (rev k)))) ∗ next (rev k) c l) := by
    unfold recvPay grant next
    rw [land_hi hk, if_neg hk, sent_peer]
  unfold awaitP
  iintro #HK Hf HO Hk
  iapply (await_core I K c Q k l n hl hn (m₂ := chunkM pbM (ch c (msk k))) (m₄ := slotM rbM (slotOf k)) rfl rfl P) $$ HK Hf HO
  iintro ⟨Hg, HO, Hs, Hr⟩
  ihave Hs' := (Entails.of_eq eS) $$ Hs
  ihave Hr' := (Entails.of_eq eR) $$ Hr
  icases Hr' with ⟨Hr, Hj⟩
  iapply Hk
  iframe

end Cert.KernelIdeal.Mlp
-- ==== Proof.Layer.lean ====
/-
# One layer

A layer's sequence of steps, for any layer: before it the device holds its chunk of the activations, the rights to
spread it, its slots and its partial products; after it the chunk of the sums, and either the rights of the next layer
or, in the last one, the whole of its activations' buffer.
-/
module

public import proofs.«01_k».proof.Proof.Transfer

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Dev nD × Cell → ℕ) (c : Dev nD) (Q : PUnit.{1} → sProp (MT nD τ sig ℕ (Elt F) ℕ UU ℕ))

/-- The fourteen copies' ghost state before layer `l`. -/
def ghosts (l : ℕ) : sProp 𝕄 :=
  iprop(ghost c 0 l ∗ ghost c 1 l ∗ ghost c 2 l ∗ ghost c 3 l ∗ ghost c 4 l ∗ ghost c 5 l ∗ ghost c 6 l ∗ ghost c 7 l ∗ ghost c 8 l ∗ ghost c 9 l ∗ ghost c 10 l ∗ ghost c 11 l ∗ ghost c 12 l ∗ ghost c 13 l)

/-- The rights to spread the activations of layer `l`. -/
def rights (l : ℕ) : sProp 𝕄 :=
  iprop(right 0 c l ∗ right 1 c l ∗ right 2 c l ∗ right 3 c l ∗ right 4 c l ∗ right 5 c l ∗ right 6 c l)

/-- The rights to spread the activations of the layer after `l`, if there is one. -/
def nexts (l : ℕ) : sProp 𝕄 :=
  iprop(next 0 c l ∗ next 1 c l ∗ next 2 c l ∗ next 3 c l ∗ next 4 c l ∗ next 5 c l ∗ next 6 c l)

/-- The chunks of the activations that a device has only at the end of the last layer. -/
def kepts (l : ℕ) : sProp 𝕄 :=
  iprop(kept c (nb c 1) l ∗ kept c (nb c 2) l ∗ kept c (nb c 3) l ∗ kept c (nb c 4) l ∗ kept c (nb c 5) l ∗ kept c (nb c 6) l ∗ kept c (nb c 7) l)

/-- The receive slots, whatever they hold. -/
def slots : sProp 𝕄 :=
  iprop((∃ X, rq c 0 X) ∗ (∃ X, rq c 1 X) ∗ (∃ X, rq c 2 X) ∗ (∃ X, rq c 3 X) ∗ (∃ X, rq c 4 X) ∗ (∃ X, rq c 5 X) ∗ (∃ X, rq c 6 X))

/-- The chunks of the partial products but the device's own, whatever they hold. -/
def others : sProp 𝕄 :=
  iprop((∃ X, pq c (nb c 1) X) ∗ (∃ X, pq c (nb c 2) X) ∗ (∃ X, pq c (nb c 3) X) ∗ (∃ X, pq c (nb c 4) X) ∗ (∃ X, pq c (nb c 5) X) ∗ (∃ X, pq c (nb c 6) X) ∗ (∃ X, pq c (nb c 7) X))

/-- What the device holds before layer `l`. -/
def layerPre (l : ℕ) : sProp 𝕄 :=
  iprop(xq c (nb c 0) fullShare (act I l (nb c 0)) ∗ (∃ X, pq c (nb c 0) X) ∗ others c ∗ slots c ∗ ghosts c l ∗ rights c l ∗ debt c (14 * l))

/-- What it holds after it. -/
def layerPost (l : ℕ) : sProp 𝕄 :=
  iprop(xq c (nb c 0) fullShare (act I l (nb c 0)) ∗ pq c (nb c 0) (lev I l 4 c (nb c 0)) ∗ others c ∗ slots c ∗ ghosts c (l + 1)
    ∗ nexts c l ∗ kepts c l ∗ debt c (14 * l + 14))

theorem xq_any (q : Dev nD) (sh : PosShare TreeShare) (X : Vx F) : (xq c q sh X : sProp 𝕄) ⊢ iprop(∃ Y, xq c q sh Y) := by
  iintro H; iexists X; iexact H

set_option maxHeartbeats 4000000 in
/-- One layer runs, and the sums are those `lev` names. -/
theorem layer_run (l : ℕ) (hl : l < 3) (wi : Memref sig .tc .vmem S256x512 .f32) (wo : Memref sig .tc .vmem S512x256 .f32)
    (s₁ s₂ : PosShare TreeShare) (dv : Fin 14 → Dev nD) (hdv : ∀ k, dv k = nb c (hop k)) (P : Pg F) :
    known I K ⊢ iprop(layerPre I c l -∗ ownsTc c wi s₁ (I.wi l c) -∗ ownsTc c wo s₂ (I.wo l c)
      -∗ ((layerPost I c l ∗ ownsTc c wi s₁ (I.wi l c) ∗ ownsTc c wo s₂ (I.wo l c)) -∗ runs c P Q)
      -∗ runs c (layer xbM pbM rbM cc0_scratch3 cc0_scratch4 (ch c) (ch c) dv wi wo P) Q) := by
  unfold layerPre others slots ghosts rights layer
  iintro #HK ⟨X0, P0, ⟨P1, P2, P3, P4, P5, P6, P7⟩, ⟨S0, S1, S2, S3, S4, S5, S6⟩,
    ⟨G0, G1, G2, G3, G4, G5, G6, G7, G8, G9, G10, G11, G12, G13⟩,
    ⟨R0, R1, R2, R3, R4, R5, R6⟩, HO⟩ Wi Wo Hk
  ihave E := (ghost_reached c 7 l) $$ G7
  icases E with ⟨#T7, G7⟩
  ihave E := (ghost_reached c 8 l) $$ G8
  icases E with ⟨#T8, G8⟩
  ihave E := (ghost_reached c 9 l) $$ G9
  icases E with ⟨#T9, G9⟩
  ihave E := (ghost_reached c 10 l) $$ G10
  icases E with ⟨#T10, G10⟩
  ihave E := (ghost_reached c 11 l) $$ G11
  icases E with ⟨#T11, G11⟩
  ihave E := (ghost_reached c 12 l) $$ G12
  icases E with ⟨#T12, G12⟩
  ihave E := (ghost_reached c 13 l) $$ G13
  icases E with ⟨#T13, G13⟩
  -- the own chunk goes out along x, y and z
  ihave E := (xq_split c (nb c 0) fullShare (act I l (nb c 0))) $$ X0
  icases E with ⟨A0, X0⟩
  ihave E := (xq_split c (nb c 0) fullShare.right (act I l (nb c 0))) $$ X0
  icases E with ⟨A1, X0⟩
  ihave E := (xq_split c (nb c 0) fullShare.right.right (act I l (nb c 0))) $$ X0
  icases E with ⟨A3, X0⟩
  iapply (startX_step I K c Q 0 (by decide) l (14 * l) (14 * l + 1) hl rfl rfl 13 rfl 0 rfl fullShare.left rfl 6 rfl (dv 0) (hdv 0).symm) $$ HK R0 G0 T13 A0 S6 HO
  iintro ⟨G0, HO⟩
  iapply (startX_step I K c Q 1 (by decide) l (14 * l + 1) (14 * l + 2) hl rfl rfl 11 rfl 0 rfl fullShare.right.left rfl 4 rfl (dv 1) (hdv 1).symm) $$ HK R1 G1 T11 A1 S4 HO
  iintro ⟨G1, HO⟩
  iapply (startX_step I K c Q 3 (by decide) l (14 * l + 2) (14 * l + 3) hl rfl rfl 7 rfl 0 rfl fullShare.right.right.left rfl 0 rfl (dv 3) (hdv 3).symm) $$ HK R3 G3 T7 A3 S0 HO
  iintro ⟨G3, HO⟩
  icases P0 with ⟨%Y0, P0⟩
  iapply (mlp_step c Q (nb c 0) _ wi wo fullShare.right.right.right s₁ s₂ (act I l (nb c 0)) Y0 (lev I l 1 c (nb c 0)) (I.wi l c) (I.wo l c) rfl) $$ X0 Wi Wo P0
  iintro ⟨X0, Wi, Wo, P0⟩
  -- the chunk from x goes on along y and z
  iapply (awaitX_step I K c Q 0 (by decide) l (14 * l + 3) 0 hl rfl (by omega) 13 rfl 0 rfl fullShare.left rfl 1 rfl) $$ HK G0 HO
  iintro ⟨G0, HO, A0, X1, R13⟩
  ihave E := (xq_split c (nb c 1) fullShare (act I l (nb c 1))) $$ X1
  icases E with ⟨A2, X1⟩
  ihave E := (xq_split c (nb c 1) fullShare.right (act I l (nb c 1))) $$ X1
  icases E with ⟨A4, X1⟩
  iapply (startX_step I K c Q 2 (by decide) l (14 * l + 3) (14 * l + 4) hl rfl rfl 12 rfl 1 rfl fullShare.left rfl 5 rfl (dv 2) (hdv 2).symm) $$ HK R2 G2 T12 A2 S5 HO
  iintro ⟨G2, HO⟩
  iapply (startX_step I K c Q 4 (by decide) l (14 * l + 4) (14 * l + 5) hl rfl rfl 8 rfl 1 rfl fullShare.right.left rfl 1 rfl (dv 4) (hdv 4).symm) $$ HK R4 G4 T8 A4 S1 HO
  iintro ⟨G4, HO⟩
  icases P1 with ⟨%Y1, P1⟩
  iapply (mlp_step c Q (nb c 1) _ wi wo fullShare.right.right s₁ s₂ (act I l (nb c 1)) Y1 (lev I l 1 c (nb c 1)) (I.wi l c) (I.wo l c) rfl) $$ X1 Wi Wo P1
  iintro ⟨X1, Wi, Wo, P1⟩
  -- the chunks from y go on along z
  iapply (awaitX_step I K c Q 1 (by decide) l (14 * l + 5) 1 hl rfl (by omega) 11 rfl 0 rfl fullShare.right.left rfl 3 rfl) $$ HK G1 HO
  iintro ⟨G1, HO, A1, X3, R11⟩
  ihave E := (xq_split c (nb c 3) fullShare (act I l (nb c 3))) $$ X3
  icases E with ⟨A5, X3⟩
  iapply (startX_step I K c Q 5 (by decide) l (14 * l + 5) (14 * l + 6) hl rfl rfl 9 rfl 3 rfl fullShare.left rfl 2 rfl (dv 5) (hdv 5).symm) $$ HK R5 G5 T9 A5 S2 HO
  iintro ⟨G5, HO⟩
  iapply (awaitX_step I K c Q 2 (by decide) l (14 * l + 6) 3 hl rfl (by omega) 12 rfl 1 rfl fullShare.left rfl 2 rfl) $$ HK G2 HO
  iintro ⟨G2, HO, A2, X2, R12⟩
  ihave E := (xq_split c (nb c 2) fullShare (act I l (nb c 2))) $$ X2
  icases E with ⟨A6, X2⟩
  iapply (startX_step I K c Q 6 (by decide) l (14 * l + 6) (14 * l + 7) hl rfl rfl 10 rfl 2 rfl fullShare.left rfl 3 rfl (dv 6) (hdv 6).symm) $$ HK R6 G6 T10 A6 S3 HO
  iintro ⟨G6, HO⟩
  icases P3 with ⟨%Y3, P3⟩
  iapply (mlp_step c Q (nb c 3) _ wi wo fullShare.right s₁ s₂ (act I l (nb c 3)) Y3 (lev I l 1 c (nb c 3)) (I.wi l c) (I.wo l c) rfl) $$ X3 Wi Wo P3
  iintro ⟨X3, Wi, Wo, P3⟩
  icases P2 with ⟨%Y2, P2⟩
  iapply (mlp_step c Q (nb c 2) _ wi wo fullShare.right s₁ s₂ (act I l (nb c 2)) Y2 (lev I l 1 c (nb c 2)) (I.wi l c) (I.wo l c) rfl) $$ X2 Wi Wo P2
  iintro ⟨X2, Wi, Wo, P2⟩
  -- the chunks from z: their products go back at once
  iapply (awaitX_step I K c Q 3 (by decide) l (14 * l + 7) 2 hl rfl (by omega) 7 rfl 0 rfl fullShare.right.right.left rfl 4 rfl) $$ HK G3 HO
  iintro ⟨G3, HO, A3, X4, R7⟩
  icases P4 with ⟨%Y4, P4⟩
  iapply (mlp_step c Q (nb c 4) _ wi wo fullShare s₁ s₂ (act I l (nb c 4)) Y4 (lev I l 1 c (nb c 4)) (I.wi l c) (I.wo l c) rfl) $$ X4 Wi Wo P4
  iintro ⟨X4, Wi, Wo, P4⟩
  ihave E := (ghost_reached c 3 (l + 1)) $$ G3
  icases E with ⟨#U3, G3⟩
  ihave E := (xq_any c (nb c 4) fullShare (act I l (nb c 4))) $$ X4
  iapply (startP_step I K c Q 7 (by decide) l (14 * l + 7) (14 * l + 8) hl rfl rfl 3 rfl 4 rfl 1 rfl 0 rfl (dv 7) (hdv 7).symm) $$ HK R7 G7 U3 P4 E HO
  iintro ⟨G7, X4, HO⟩
  ihave X0 := (xq_join c (nb c 0) fullShare.right.right (act I l (nb c 0))) $$ A3 X0
  ihave X0 := (xq_join c (nb c 0) fullShare.right (act I l (nb c 0))) $$ A1 X0
  ihave X0 := (xq_join c (nb c 0) fullShare (act I l (nb c 0))) $$ A0 X0
  iapply (awaitX_step I K c Q 4 (by decide) l (14 * l + 8) 4 hl rfl (by omega) 8 rfl 1 rfl fullShare.right.left rfl 5 rfl) $$ HK G4 HO
  iintro ⟨G4, HO, A4, X5, R8⟩
  icases P5 with ⟨%Y5, P5⟩
  iapply (mlp_step c Q (nb c 5) _ wi wo fullShare s₁ s₂ (act I l (nb c 5)) Y5 (lev I l 1 c (nb c 5)) (I.wi l c) (I.wo l c) rfl) $$ X5 Wi Wo P5
  iintro ⟨X5, Wi, Wo, P5⟩
  ihave E := (ghost_reached c 4 (l + 1)) $$ G4
  icases E with ⟨#U4, G4⟩
  ihave E := (xq_any c (nb c 5) fullShare (act I l (nb c 5))) $$ X5
  iapply (startP_step I K c Q 8 (by decide) l (14 * l + 8) (14 * l + 9) hl rfl rfl 4 rfl 5 rfl 1 rfl 1 rfl (dv 8) (hdv 8).symm) $$ HK R8 G8 U4 P5 E HO
  iintro ⟨G8, X5, HO⟩
  ihave X1 := (xq_join c (nb c 1) fullShare.right (act I l (nb c 1))) $$ A4 X1
  ihave X1 := (xq_join c (nb c 1) fullShare (act I l (nb c 1))) $$ A2 X1
  iapply (awaitX_step I K c Q 5 (by decide) l (14 * l + 9) 5 hl rfl (by omega) 9 rfl 3 rfl fullShare.left rfl 7 rfl) $$ HK G5 HO
  iintro ⟨G5, HO, A5, X7, R9⟩
  icases P7 with ⟨%Y7, P7⟩
  iapply (mlp_step c Q (nb c 7) _ wi wo fullShare s₁ s₂ (act I l (nb c 7)) Y7 (lev I l 1 c (nb c 7)) (I.wi l c) (I.wo l c) rfl) $$ X7 Wi Wo P7
  iintro ⟨X7, Wi, Wo, P7⟩
  ihave E := (ghost_reached c 5 (l + 1)) $$ G5
  icases E with ⟨#U5, G5⟩
  ihave E := (xq_any c (nb c 7) fullShare (act I l (nb c 7))) $$ X7
  iapply (startP_step I K c Q 9 (by decide) l (14 * l + 9) (14 * l + 10) hl rfl rfl 5 rfl 7 rfl 1 rfl 2 rfl (dv 9) (hdv 9).symm) $$ HK R9 G9 U5 P7 E HO
  iintro ⟨G9, X7, HO⟩
  ihave X3 := (xq_join c (nb c 3) fullShare (act I l (nb c 3))) $$ A5 X3
  iapply (awaitX_step I K c Q 6 (by decide) l (14 * l + 10) 6 hl rfl (by omega) 10 rfl 2 rfl fullShare.left rfl 6 rfl) $$ HK G6 HO
  iintro ⟨G6, HO, A6, X6, R10⟩
  icases P6 with ⟨%Y6, P6⟩
  iapply (mlp_step c Q (nb c 6) _ wi wo fullShare s₁ s₂ (act I l (nb c 6)) Y6 (lev I l 1 c (nb c 6)) (I.wi l c) (I.wo l c) rfl) $$ X6 Wi Wo P6
  iintro ⟨X6, Wi, Wo, P6⟩
  ihave E := (ghost_reached c 6 (l + 1)) $$ G6
  icases E with ⟨#U6, G6⟩
  ihave E := (xq_any c (nb c 6) fullShare (act I l (nb c 6))) $$ X6
  iapply (startP_step I K c Q 10 (by decide) l (14 * l + 10) (14 * l + 11) hl rfl rfl 6 rfl 6 rfl 1 rfl 3 rfl (dv 10) (hdv 10).symm) $$ HK R10 G10 U6 P6 E HO
  iintro ⟨G10, X6, HO⟩
  ihave X2 := (xq_join c (nb c 2) fullShare (act I l (nb c 2))) $$ A6 X2
  -- the sums along z, then along y, then along x
  iapply (awaitP_step I K c Q 9 (by decide) l (14 * l + 11) 9 hl rfl (by omega) 5 rfl 7 rfl 1 rfl 2 rfl 4 rfl 3 rfl) $$ HK G9 HO
  iintro ⟨G9, HO, P7, S2, R5⟩
  iapply (acc_step c Q (nb c 3) _ 2 (lev I l 1 c (nb c 3)) (lev I l 1 (nb c 4) (nb c 3)) (lev I l 2 c (nb c 3)) rfl) $$ P3 S2
  iintro ⟨P3, S2⟩
  ihave E := (ghost_reached c 1 (l + 1)) $$ G1
  icases E with ⟨#U1, G1⟩
  ihave E := (xq_any c (nb c 3) fullShare (act I l (nb c 3))) $$ X3
  iapply (startP_step I K c Q 11 (by decide) l (14 * l + 11) (14 * l + 12) hl rfl rfl 1 rfl 3 rfl 2 rfl 4 rfl (dv 11) (hdv 11).symm) $$ HK R11 G11 U1 P3 E HO
  iintro ⟨G11, X3, HO⟩
  iapply (awaitP_step I K c Q 10 (by decide) l (14 * l + 12) 10 hl rfl (by omega) 6 rfl 6 rfl 1 rfl 3 rfl 4 rfl 2 rfl) $$ HK G10 HO
  iintro ⟨G10, HO, P6, S3, R6⟩
  iapply (acc_step c Q (nb c 2) _ 3 (lev I l 1 c (nb c 2)) (lev I l 1 (nb c 4) (nb c 2)) (lev I l 2 c (nb c 2)) rfl) $$ P2 S3
  iintro ⟨P2, S3⟩
  ihave E := (ghost_reached c 2 (l + 1)) $$ G2
  icases E with ⟨#U2, G2⟩
  ihave E := (xq_any c (nb c 2) fullShare (act I l (nb c 2))) $$ X2
  iapply (startP_step I K c Q 12 (by decide) l (14 * l + 12) (14 * l + 13) hl rfl rfl 2 rfl 2 rfl 2 rfl 5 rfl (dv 12) (hdv 12).symm) $$ HK R12 G12 U2 P2 E HO
  iintro ⟨G12, X2, HO⟩
  iapply (awaitP_step I K c Q 8 (by decide) l (14 * l + 13) 8 hl rfl (by omega) 4 rfl 5 rfl 1 rfl 1 rfl 4 rfl 1 rfl) $$ HK G8 HO
  iintro ⟨G8, HO, P5, S1, R4⟩
  iapply (acc_step c Q (nb c 1) _ 1 (lev I l 1 c (nb c 1)) (lev I l 1 (nb c 4) (nb c 1)) (lev I l 2 c (nb c 1)) rfl) $$ P1 S1
  iintro ⟨P1, S1⟩
  iapply (awaitP_step I K c Q 12 (by decide) l (14 * l + 13) 12 hl rfl (by omega) 2 rfl 2 rfl 2 rfl 5 rfl 3 rfl 1 rfl) $$ HK G12 HO
  iintro ⟨G12, HO, P2, S5, R2⟩
  iapply (acc_step c Q (nb c 1) _ 5 (lev I l 2 c (nb c 1)) (lev I l 2 (nb c 3) (nb c 1)) (lev I l 3 c (nb c 1)) rfl) $$ P1 S5
  iintro ⟨P1, S5⟩
  ihave E := (ghost_reached c 0 (l + 1)) $$ G0
  icases E with ⟨#U0, G0⟩
  ihave E := (xq_any c (nb c 1) fullShare (act I l (nb c 1))) $$ X1
  iapply (startP_step I K c Q 13 (by decide) l (14 * l + 13) (14 * l + 14) hl rfl rfl 0 rfl 1 rfl 3 rfl 6 rfl (dv 13) (hdv 13).symm) $$ HK R13 G13 U0 P1 E HO
  iintro ⟨G13, X1, HO⟩
  iapply (awaitP_step I K c Q 7 (by decide) l (14 * l + 14) 7 hl rfl (by omega) 3 rfl 4 rfl 1 rfl 0 rfl 4 rfl 0 rfl) $$ HK G7 HO
  iintro ⟨G7, HO, P4, S0, R3⟩
  iapply (acc_step c Q (nb c 0) _ 0 (lev I l 1 c (nb c 0)) (lev I l 1 (nb c 4) (nb c 0)) (lev I l 2 c (nb c 0)) rfl) $$ P0 S0
  iintro ⟨P0, S0⟩
  iapply (awaitP_step I K c Q 11 (by decide) l (14 * l + 14) 11 hl rfl (by omega) 1 rfl 3 rfl 2 rfl 4 rfl 3 rfl 0 rfl) $$ HK G11 HO
  iintro ⟨G11, HO, P3, S4, R1⟩
  iapply (acc_step c Q (nb c 0) _ 4 (lev I l 2 c (nb c 0)) (lev I l 2 (nb c 3) (nb c 0)) (lev I l 3 c (nb c 0)) rfl) $$ P0 S4
  iintro ⟨P0, S4⟩
  iapply (awaitP_step I K c Q 13 (by decide) l (14 * l + 14) 13 hl rfl (by omega) 0 rfl 1 rfl 3 rfl 6 rfl 1 rfl 0 rfl) $$ HK G13 HO
  iintro ⟨G13, HO, P1, S6, R0⟩
  iapply (acc_step c Q (nb c 0) _ 6 (lev I l 3 c (nb c 0)) (lev I l 3 (nb c 1) (nb c 0)) (lev I l 4 c (nb c 0)) rfl) $$ P0 S6
  iintro ⟨P0, S6⟩
  iapply Hk
  unfold layerPost others slots ghosts nexts kepts
  iframe X0 P0 HO Wi Wo
  isplitl [P1 P2 P3 P4 P5 P6 P7]
  · isplitl [P1]; · iexists _; iexact P1
    isplitl [P2]; · iexists _; iexact P2
    isplitl [P3]; · iexists _; iexact P3
    isplitl [P4]; · iexists _; iexact P4
    isplitl [P5]; · iexists _; iexact P5
    isplitl [P6]; · iexists _; iexact P6
    iexists _; iexact P7
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [G0 G1 G2 G3 G4 G5 G6 G7 G8 G9 G10 G11 G12 G13]; · iframe
  isplitl [R0 R1 R2 R3 R4 R5 R6]; · iframe
  iframe

end Cert.KernelIdeal.Mlp
-- ==== Proof.Body.lean ====
/-
# The whole body

The handshake, the three layers and what is between them, and the closing of the device's cells: from what the launch
gives a device to its block of the result.
-/
module

public import proofs.«01_k».proof.Proof.Layer

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (I : Inputs F) (K : Dev nD × Cell → ℕ) (c : Dev nD) (Q : PUnit.{1} → sProp (MT nD τ sig ℕ (Elt F) ℕ UU ℕ))

/-! ## The handshake -/

/-- What a device owes at the launch: every copy, and a unit to each of the three neighbours' barrier cells. -/
def O₀ (c : Dev nD) : CellTallies nD τ sig ℕ :=
  owed c 0 + tallyAt (barCell (nb c 4)) 0 1 + tallyAt (barCell (nb c 3)) 0 1 + tallyAt (barCell (nb c 1)) 0 1

/-- What a device keeps for the handshake. -/
def greetPre : sProp 𝕄 :=
  iprop(atPos ER (barCell c) 0 ∅ 0 ∗ cred (tallyAt (barCell c) 0 3)
    ∗ (dutyTok ER (barCell (nb c 1)) 0 0 ∗ reached ER (barCell (nb c 1)) 0)
    ∗ (dutyTok ER (barCell (nb c 3)) 0 1 ∗ reached ER (barCell (nb c 3)) 0)
    ∗ (dutyTok ER (barCell (nb c 4)) 0 2 ∗ reached ER (barCell (nb c 4)) 0))

/-- The chunks of the activations' buffer but the device's own, whatever they hold. -/
def chunks : sProp 𝕄 :=
  iprop((∃ X, xq c (nb c 1) fullShare X) ∗ (∃ X, xq c (nb c 2) fullShare X) ∗ (∃ X, xq c (nb c 3) fullShare X) ∗ (∃ X, xq c (nb c 4) fullShare X) ∗ (∃ X, xq c (nb c 5) fullShare X) ∗ (∃ X, xq c (nb c 6) fullShare X) ∗ (∃ X, xq c (nb c 7) fullShare X))

/-- A device's room for the chunk copy `k` brings is its peer's right to make that copy. -/
theorem right_give (k : Fin 14) (hk : k.val < 7) (p : Fin 8) (hp : msk (rev k) = p) (n : ℕ) :
    (iprop((∃ X, xq c (nb c p) fullShare X) ∗ reached ER (recvCell c k) n) : sProp 𝕄) ⊢ right k (nb c (hop k)) n := by
  subst hp
  unfold right
  rw [nb_nb]
  simp only [land_lo hk, nb_hop_rev]
  exact BIBase.Entails.rfl

set_option maxHeartbeats 1000000 in
/-- The handshake: the rooms go to the three neighbours, and theirs come. -/
theorem greet_run (dx dy dz : Dev nD) (hx : dx = nb c 1) (hy : dy = nb c 3) (hz : dz = nb c 4) (P : Pg F) :
    known I K ⊢ iprop(greetPre c -∗ chunks c -∗ ghosts c 0 -∗ (∃ W, owes (c : Thread nD τ) (O₀ c) W)
      -∗ ((atPos ER (barCell c) 1 ∅ 0 ∗ ghosts c 0 ∗ rights c 0 ∗ debt c (14 * 0)) -∗ runs c P Q)
      -∗ runs c (greet dx dy dz P) Q) := by
  subst hx hy hz
  unfold known greetPre chunks ghosts rights greet debt
  iintro ⟨#HI, #Hlev⟩ ⟨HatB, HcB, ⟨Ht0, #Hr0⟩, ⟨Ht1, #Hr1⟩, ⟨Ht2, #Hr2⟩⟩ ⟨X1, X2, X3, X4, X5, X6, X7⟩
    ⟨G0, G1, G2, G3, G4, G5, G6, G7, G8, G9, G10, G11, G12, G13⟩ ⟨%W, HO⟩ Hk
  ihave E := (ghost_reached c 0 0) $$ G0
  icases E with ⟨#T0, G0⟩
  ihave E := (ghost_reached c 1 0) $$ G1
  icases E with ⟨#T1, G1⟩
  ihave E := (ghost_reached c 2 0) $$ G2
  icases E with ⟨#T2, G2⟩
  ihave E := (ghost_reached c 3 0) $$ G3
  icases E with ⟨#T3, G3⟩
  ihave E := (ghost_reached c 4 0) $$ G4
  icases E with ⟨#T4, G4⟩
  ihave E := (ghost_reached c 5 0) $$ G5
  icases E with ⟨#T5, G5⟩
  ihave E := (ghost_reached c 6 0) $$ G6
  icases E with ⟨#T6, G6⟩
  ihave #HB0 := (records_bar I K (nb c 1)) $$ HI
  iapply (Rounds.wp_signal 𝒱₀ ER (sched I) (c : Thread nD τ) none (κ := K (nb c 1, none)) (r := 0) (d := 0)
    (by rw [duties_bar]; exact Finset.mem_univ _) (amount_bar I (nb c 1) 0 0) 0 (owed c 0 + tallyAt (barCell (nb c 4)) 0 1 + tallyAt (barCell (nb c 3)) 0 1) rfl (W := W)) $$ [HO Ht0 X1]
  · isplitr; · iexact HB0
    isplitl [HO]; · iexact HO
    isplitl [Ht0]; · iexact Ht0
    isplitl [X1]
    · rw [payload_bar]
      unfold barPay
      iapply (right_give c 0 (by decide) 1 rfl 0)
      isplitl [X1]; · iexact X1
      iexact T0
    iexact Hr0
  iintro HO
  ihave #HB1 := (records_bar I K (nb c 3)) $$ HI
  iapply (Rounds.wp_signal 𝒱₀ ER (sched I) (c : Thread nD τ) none (κ := K (nb c 3, none)) (r := 0) (d := 1)
    (by rw [duties_bar]; exact Finset.mem_univ _) (amount_bar I (nb c 3) 0 1) 0 (owed c 0 + tallyAt (barCell (nb c 4)) 0 1) rfl (W := W)) $$ [HO Ht1 X3 X2]
  · isplitr; · iexact HB1
    isplitl [HO]; · iexact HO
    isplitl [Ht1]; · iexact Ht1
    isplitl [X3 X2]
    · rw [payload_bar]
      unfold barPay
      isplitl [X3]
      · iapply (right_give c 1 (by decide) 3 rfl 0)
        isplitl [X3]; · iexact X3
        iexact T1
      iapply (right_give c 2 (by decide) 2 rfl 0)
      isplitl [X2]; · iexact X2
      iexact T2
    iexact Hr1
  iintro HO
  ihave #HB2 := (records_bar I K (nb c 4)) $$ HI
  iapply (Rounds.wp_signal 𝒱₀ ER (sched I) (c : Thread nD τ) none (κ := K (nb c 4, none)) (r := 0) (d := 2)
    (by rw [duties_bar]; exact Finset.mem_univ _) (amount_bar I (nb c 4) 0 2) 0 (owed c 0) rfl (W := W)) $$ [HO Ht2 X4 X5 X7 X6]
  · isplitr; · iexact HB2
    isplitl [HO]; · iexact HO
    isplitl [Ht2]; · iexact Ht2
    isplitl [X4 X5 X7 X6]
    · rw [payload_bar]
      unfold barPay
      isplitl [X4]
      · iapply (right_give c 3 (by decide) 4 rfl 0)
        isplitl [X4]; · iexact X4
        iexact T3
      isplitl [X5]
      · iapply (right_give c 4 (by decide) 5 rfl 0)
        isplitl [X5]; · iexact X5
        iexact T4
      isplitl [X7]
      · iapply (right_give c 5 (by decide) 7 rfl 0)
        isplitl [X7]; · iexact X7
        iexact T5
      iapply (right_give c 6 (by decide) 6 rfl 0)
      isplitl [X6]; · iexact X6
      iexact T6
    iexact Hr2
  iintro HO
  ihave #HB := (records_bar I K c) $$ HI
  iapply (Rounds.wp_wait_rest_token 𝒱₀ ER (sched I) (c : Thread nD τ) none (κ := K (c, none))
    (wpE_semWait_eq 𝒱₀ (c : Thread nD τ) none Set.univ) (Set.mem_univ _) 0 (O := owed c 0) (W := W) (R := 0) (m := 0) (T := ∅)
    (by rw [expect_bar]; decide)) $$ [HcB HO HatB]
  · isplitr; · iexact HB
    isplitl [HcB]; · iexact HcB
    isplitl [HO]; · iexact HO
    isplitr; · iapply (mayWait_bar c); iexact Hlev
    iexact HatB
  iintro ⟨HO, HatB, -, Hpay⟩
  ihave Hp := (Entails.of_eq (rest_bar I c)) $$ Hpay
  unfold barPay
  icases Hp with ⟨R0, ⟨R1, R2⟩, ⟨R3, R4, R5, R6⟩⟩
  iapply Hk
  isplitl [HatB]; · iexact HatB
  isplitl [G0 G1 G2 G3 G4 G5 G6 G7 G8 G9 G10 G11 G12 G13]; · iframe
  isplitl [R0 R1 R2 R3 R4 R5 R6]; · iframe
  iexists _
  iexact HO

/-! ## Between the layers, and the end -/

theorem nexts_lt {l : ℕ} (h : l < 2) : (nexts c l : sProp 𝕄) = rights c (l + 1) := by
  unfold nexts rights next; simp only [if_pos h]

theorem kepts_lt {l : ℕ} (h : l < 2) : (kepts c l : sProp 𝕄) ⊢ iprop(emp) := by
  unfold kepts kept; simp only [if_pos h]
  iintro -; iempintro

theorem kepts_last : (kepts c 2 : sProp 𝕄) = chunks c := by
  unfold kepts kept chunks; simp only [if_neg (show ¬ (2 : ℕ) < 2 by decide)]

theorem nexts_last : (nexts c 2 : sProp 𝕄) ⊢ iprop(emp) := by
  unfold nexts next; simp only [if_neg (show ¬ (2 : ℕ) < 2 by decide)]
  iintro -; iempintro

/-- The own chunk's result is its activations of the next layer. -/
theorem carried (l : ℕ) : (xq c (nb c 0) fullShare (k0_pay22 (lev I l 4 c (nb c 0))) : sProp 𝕄)
    = xq c (nb c 0) fullShare (act I (l + 1) (nb c 0)) := by
  rw [act_succ, nb_zero]

theorem entered : (xq c (nb c 0) fullShare (k0_pay2 (I.x c)) : sProp 𝕄) = xq c (nb c 0) fullShare (act I 0 (nb c 0)) := by
  rw [nb_zero]; rfl

theorem left (y : Memref sig .tc .vmem S256x256 .f32) :
    (ownsTc c y fullShare (lev I 2 4 c (nb c 0)) : sProp 𝕄) = ownsTc c y fullShare (result I c) := by
  rw [nb_zero]; rfl

/-- The two cells of a copy close once the three layers are over. -/
theorem close_copy (k : Fin 14) :
    known I K ⊢ iprop(ghost c k 3 -∗ |={Set.univ}=> (semVal (sendCell c k) 0 ∗ semVal (recvCell c k) 0)) := by
  unfold known ghost
  iintro ⟨#HI, -⟩ ⟨HaS, HaR, -, -, -⟩
  ihave #HIs := (records_send I K c k) $$ HI
  ihave #HIr := (records_recv I K c k) $$ HI
  imod (Rounds.cell_close ER (sched I) (Set.mem_univ (K (c, some (false, k)))) (fun h => h) (R := 3) (duties_later I (sendCell c k))) $$ [HaS] with HzS
  · isplitr; · iexact HIs
    iexact HaS
  imod (Rounds.cell_close ER (sched I) (Set.mem_univ (K (c, some (true, k)))) (fun h => h) (R := 3) (duties_later I (recvCell c k))) $$ [HaR] with HzR
  · isplitr; · iexact HIr
    iexact HaR
  imodintro
  iframe

/-- The barrier cell closes. -/
theorem close_bar :
    known I K ⊢ iprop(atPos ER (barCell c) 1 ∅ 0 -∗ |={Set.univ}=> semVal (barCell c) 0) := by
  unfold known
  iintro ⟨#HI, -⟩ Ha
  ihave #HB := (records_bar I K c) $$ HI
  iapply (Rounds.cell_close ER (sched I) (Set.mem_univ (K (c, none))) (fun h => h) (R := 1) (duties_bar_later I c))
  isplitr; · iexact HB
  iexact Ha

/-- Every transfer semaphore of the device at zero. -/
def zeros : sProp 𝕄 := bigSep Finset.univ fun x : Bool × Fin 14 => semVal ((c : Thread nD τ), osem x) 0

theorem ghosts_eq (l : ℕ) : (bigSep Finset.univ fun k : Fin 14 => ghost c k l : sProp 𝕄) = ghosts c l :=
  bigSep_univ_eq_bigSepL [0, 1, 2, 3, 4, 5, 6, 7, 8, 9, 10, 11, 12, 13] (by decide) (by decide) _

theorem zeros_eq : (zeros c : sProp 𝕄) = bigSep Finset.univ fun k : Fin 14 => iprop(semVal (sendCell c k) 0 ∗ semVal (recvCell c k) 0) := by
  unfold zeros
  rw [bigSep_univ_prod, bigSep_univ_eq_bigSepL [false, true] (by decide) (by decide), bigSep_sep']
  rfl

theorem close_copies : known I K ⊢ iprop(ghosts c 3 -∗ |={Set.univ}=> zeros c) := by
  rw [← ghosts_eq, zeros_eq]
  have h (S : Finset (Fin 14)) : known I K ⊢ iprop((bigSep S fun k => ghost c k 3)
      -∗ |={Set.univ}=> bigSep S fun k : Fin 14 => iprop(semVal (sendCell c k) 0 ∗ semVal (recvCell c k) 0)) := by
    induction S using Finset.induction_on with
    | empty =>
      iintro - -
      imodintro
      rw [bigSep_empty]
      iempintro
    | insert k S hk ih =>
      rw [bigSep_insert hk, bigSep_insert hk]
      change _ ⊢ iprop((ghost c k 3 ∗ bigSep S fun k => ghost c k 3)
        -∗ |={Set.univ}=> ((semVal (sendCell c k) 0 ∗ semVal (recvCell c k) 0)
          ∗ bigSep S fun k : Fin 14 => iprop(semVal (sendCell c k) 0 ∗ semVal (recvCell c k) 0)))
      iintro #HK ⟨H1, H2⟩
      imod (close_copy I K c k) $$ HK H1 with H1
      imod ih $$ HK H2 with H2
      imodintro
      isplitl [H1]; · iexact H1
      iexact H2
  exact h _

/-- What a device ends with, its staging buffers apart. -/
def wholePost : sProp 𝕄 :=
  iprop((∃ X, xq c (nb c 0) fullShare X) ∗ chunks c ∗ (∃ X, pq c (nb c 0) X) ∗ others c ∗ slots c ∗ zeros c ∗ semVal (barCell c) 0
    ∗ (∃ W, owes (c : Thread nD τ) 0 W))

theorem pq_any (q : Dev nD) (X : Vx F) : (pq c q X : sProp 𝕄) ⊢ iprop(∃ Y, pq c q Y) := by
  iintro H; iexists X; iexact H

/-- The layers' weights in their staging buffers. -/
def weights (w₀ w₁ w₂ : Memref sig .tc .vmem S256x512 .f32) (v₀ v₁ v₂ : Memref sig .tc .vmem S512x256 .f32) : sProp 𝕄 :=
  iprop(ownsTc c w₀ fullShare (I.wi 0 c) ∗ ownsTc c v₀ fullShare (I.wo 0 c) ∗ ownsTc c w₁ fullShare (I.wi 1 c) ∗ ownsTc c v₁ fullShare (I.wo 1 c)
    ∗ ownsTc c w₂ fullShare (I.wi 2 c) ∗ ownsTc c v₂ fullShare (I.wo 2 c))

set_option maxHeartbeats 2000000 in
/-- The whole body runs, and leaves the device's block of the result. -/
theorem whole_run (x y : Memref sig .tc .vmem S256x256 .f32)
    (w₀ w₁ w₂ : Memref sig .tc .vmem S256x512 .f32) (v₀ v₁ v₂ : Memref sig .tc .vmem S512x256 .f32)
    (dx dy dz : Dev nD) (hx : dx = nb c 1) (hy : dy = nb c 3) (hz : dz = nb c 4)
    (d₀ d₁ d₂ : Fin 14 → Dev nD) (h₀ : ∀ k, d₀ k = nb c (hop k)) (h₁ : ∀ k, d₁ k = nb c (hop k)) (h₂ : ∀ k, d₂ k = nb c (hop k)) :
    known I K ⊢ iprop(greetPre c -∗ (∃ X, xq c (nb c 0) fullShare X) -∗ chunks c -∗ (∃ X, pq c (nb c 0) X) -∗ others c -∗ slots c
      -∗ ghosts c 0 -∗ (∃ W, owes (c : Thread nD τ) (O₀ c) W)
      -∗ ownsTc c x fullShare (I.x c) -∗ weights I c w₀ w₁ w₂ v₀ v₁ v₂ -∗ (∃ Y, ownsTc c y fullShare Y)
      -∗ ((wholePost c ∗ ownsTc c x fullShare (I.x c) ∗ weights I c w₀ w₁ w₂ v₀ v₁ v₂ ∗ ownsTc c y fullShare (result I c)) -∗ Q ⟨⟩)
      -∗ runs c (whole xbM pbM rbM cc0_scratch3 cc0_scratch4 (ch c) (ch c) x w₀ v₀ w₁ v₁ w₂ v₂ y dx dy dz d₀ d₁ d₂) Q) := by
  unfold whole weights
  iintro #HK Hb ⟨%Z, X0⟩ Hx P0 Po Hs HG HO Ix ⟨W0, V0, W1, V1, W2, V2⟩ ⟨%Y, Iy⟩ Hk
  iapply (greet_run I K c Q dx dy dz hx hy hz) $$ HK Hb Hx HG HO
  iintro ⟨HatB, HG, HR, HO⟩
  iapply (enter_step c Q (nb c 0) _ x fullShare (I.x c) Z) $$ Ix X0
  iintro ⟨Ix, X0⟩
  ihave X0' := (Entails.of_eq (entered I c)) $$ X0
  iapply (layer_run I K c Q 0 (by decide) w₀ v₀ fullShare fullShare d₀ h₀) $$ HK [X0' P0 Po Hs HG HR HO] W0 V0
  · unfold layerPre; iframe
  unfold layerPost
  iintro ⟨⟨X0, P0, Po, Hs, HG, HN, HM, HO⟩, W0, V0⟩
  ihave HR := (Entails.of_eq (nexts_lt c (l := 0) (by decide))) $$ HN
  ihave - := (kepts_lt c (l := 0) (by decide)) $$ HM
  iapply (carry_step c Q (nb c 0) _ (lev I 0 4 c (nb c 0)) (act I 0 (nb c 0))) $$ P0 X0
  iintro ⟨P0', X0⟩
  ihave P0 := (pq_any c (nb c 0) (lev I 0 4 c (nb c 0))) $$ P0'
  ihave X0' := (Entails.of_eq (carried I c 0)) $$ X0
  iapply (layer_run I K c Q 1 (by decide) w₁ v₁ fullShare fullShare d₁ h₁) $$ HK [X0' P0 Po Hs HG HR HO] W1 V1
  · unfold layerPre; iframe
  unfold layerPost
  iintro ⟨⟨X0, P0, Po, Hs, HG, HN, HM, HO⟩, W1, V1⟩
  ihave HR := (Entails.of_eq (nexts_lt c (l := 1) (by decide))) $$ HN
  ihave - := (kepts_lt c (l := 1) (by decide)) $$ HM
  iapply (carry_step c Q (nb c 0) _ (lev I 1 4 c (nb c 0)) (act I 1 (nb c 0))) $$ P0 X0
  iintro ⟨P0', X0⟩
  ihave P0 := (pq_any c (nb c 0) (lev I 1 4 c (nb c 0))) $$ P0'
  ihave X0' := (Entails.of_eq (carried I c 1)) $$ X0
  iapply (layer_run I K c Q 2 (by decide) w₂ v₂ fullShare fullShare d₂ h₂) $$ HK [X0' P0 Po Hs HG HR HO] W2 V2
  · unfold layerPre; iframe
  unfold layerPost
  iintro ⟨⟨X0, P0, Po, Hs, HG, HN, HM, HO⟩, W2, V2⟩
  ihave Hx := (Entails.of_eq (kepts_last c)) $$ HM
  ihave - := (nexts_last c) $$ HN
  iapply (leave_step c Q (nb c 0) _ y (lev I 2 4 c (nb c 0)) Y) $$ P0 Iy
  iintro ⟨P0, Iy'⟩
  ihave Iy := (Entails.of_eq (left I c y)) $$ Iy'
  imod (close_copies I K c) $$ HK HG with Hz
  imod (close_bar I K c) $$ HK HatB with Hzb
  rw [wp_ret]; imodintro
  iapply Hk
  unfold wholePost debt
  iframe Ix W0 V0 W1 V1 W2 V2 Iy Hx Po Hs Hz Hzb
  isplitl [X0]; · iexists _; iexact X0
  isplitl [P0]; · iexists _; iexact P0
  icases HO with ⟨%W, HO⟩
  iexists W
  rw [← owed_end c]
  iexact HO

end Cert.KernelIdeal.Mlp
-- ==== Proof.Rooms.lean ====
/-
# The buffers in pieces

The activations' buffer and the partial products' buffer fall into one chunk for each device, the receive buffer into
seven slots. A device gives these buffers away and gets them back whole; the body holds the pieces.
-/
module

public import proofs.«01_k».proof.Proof.Body

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A buffer and a family of rectangles that covers it -/

section Pieces

variable (c : Dev nD) (b : Ref sig .tc) {e : EltTy} {T : Type} [Fintype T] [DecidableEq T]

/-- A whole buffer at any contents is the whole view of it at any contents. -/
theorem whole_any : (iprop(∃ f : Buf (Elt F) ((c : Thread nD τ).loc b), ((c : Thread nD τ).loc b) ↦{fullShare} f) : sProp 𝕄)
    = iprop(∃ X, owns (c : Thread nD τ) (Memref.whole b) fullShare X) := by
  simp only [owns_whole (c : Thread nD τ) b fullShare]

variable (r : T → Rect b.ty.shape) (hr : ∀ t a, (r t).stride a = 1)
  (hd : ∀ t t', t ≠ t' → Disjoint (r t).set (r t').set)
  (hcov : (Finset.univ : Finset T).biUnion (fun t => (r t).set) = Finset.univ)
include hd hcov

theorem pieces_split : (iprop(∃ f : Buf (Elt F) ((c : Thread nD τ).loc b), ((c : Thread nD τ).loc b) ↦{fullShare} f) : sProp 𝕄)
    ⊢ bigSep Finset.univ fun t => iprop(∃ X, owns (c : Thread nD τ) ((Memref.whole b).slice (r t) (hr t)) fullShare X) := by
  rw [whole_any]
  iintro ⟨%X, H⟩
  iapply (show (owns (c : Thread nD τ) (Memref.whole b) fullShare X : sProp 𝕄) ⊢ _ from
    (owns_rects (c : Thread nD τ) (Memref.whole b) fullShare r hr hd hcov X).trans (bigSep_mono fun t _ => by
      show (_ : sProp 𝕄) ⊢ _
      iintro H
      iexists _
      iexact H))
  iexact H

theorem pieces_join : (bigSep Finset.univ fun t => iprop(∃ X, owns (c : Thread nD τ) ((Memref.whole b).slice (r t) (hr t)) fullShare X) : sProp 𝕄)
    ⊢ iprop(∃ f : Buf (Elt F) ((c : Thread nD τ).loc b), ((c : Thread nD τ).loc b) ↦{fullShare} f) := by
  rw [whole_any]
  refine BIBase.Entails.trans (bigSep_mono (Ψ := fun t => ownsSat (c : Thread nD τ) ((Memref.whole b).slice (r t) (hr t)) fullShare fun _ => True) fun t _ => ?_) ?_
  · unfold owns ownsSat
    show (_ : sProp 𝕄) ⊢ _
    iintro ⟨%X, %f, %hf, H⟩
    iexists f; isplitr
    · ipureintro; trivial
    · iexact H
  · refine BIBase.Entails.trans (ownsSat_of_rects (c : Thread nD τ) (Memref.whole b) fullShare r hr hd hcov fun _ _ => True) ?_
    unfold owns ownsSat
    iintro ⟨%f, -, H⟩
    iexists _, f; isplitr
    · ipureintro; rfl
    · iexact H

end Pieces

/-! ## The chunks and the slots -/

theorem chunk_disjoint (d d' : Dev nD) (h : d ≠ d') : Disjoint (chunkR (chunkAt d)).set (chunkR (chunkAt d')).set := by
  have hv : d.val ≠ d'.val := fun e => h (Fin.ext e)
  refine Rect.unit_disjoint (0 : Fin 2) ?_
  show 256 * d.val + 256 ≤ 256 * d'.val ∨ 256 * d'.val + 256 ≤ 256 * d.val
  omega

theorem chunk_cover : (Finset.univ : Finset (Dev nD)).biUnion (fun d => (chunkR (chunkAt d)).set) = Finset.univ := by
  refine Finset.eq_univ_of_forall fun i => ?_
  have h0 : (i 0).val < 2048 := (i 0).isLt
  have h1 : (i 1).val < 256 := (i 1).isLt
  refine Finset.mem_biUnion.mpr ⟨⟨(i 0).val / 256, by show (i 0).val / 256 < 8; omega⟩, Finset.mem_univ _, Rect.mem_set_unit.mpr fun a => ?_⟩
  match a with
  | 0 =>
    show 256 * ((i 0).val / 256) ≤ (i 0).val ∧ (i 0).val < 256 * ((i 0).val / 256) + 256
    omega
  | 1 =>
    show 0 ≤ (i 1).val ∧ (i 1).val < 0 + 256
    omega

theorem slot_disjoint (j j' : Fin 7) (h : j ≠ j') : Disjoint (slotR j).set (slotR j').set := by
  have hv : j.val ≠ j'.val := fun e => h (Fin.ext e)
  refine Rect.unit_disjoint (0 : Fin 2) ?_
  show 256 * j.val + 256 ≤ 256 * j'.val ∨ 256 * j'.val + 256 ≤ 256 * j.val
  omega

theorem slot_cover : (Finset.univ : Finset (Fin 7)).biUnion (fun j => (slotR j).set) = Finset.univ := by
  refine Finset.eq_univ_of_forall fun i => ?_
  have h0 : (i 0).val < 1792 := (i 0).isLt
  have h1 : (i 1).val < 256 := (i 1).isLt
  refine Finset.mem_biUnion.mpr ⟨⟨(i 0).val / 256, by omega⟩, Finset.mem_univ _, Rect.mem_set_unit.mpr fun a => ?_⟩
  match a with
  | 0 =>
    show 256 * ((i 0).val / 256) ≤ (i 0).val ∧ (i 0).val < 256 * ((i 0).val / 256) + 256
    omega
  | 1 =>
    show 0 ≤ (i 1).val ∧ (i 1).val < 0 + 256
    omega

variable (c : Dev nD)

/-- The pieces of the activations' buffer, the own chunk first. -/
theorem xq_masks : (bigSep Finset.univ fun d : Dev nD => iprop(∃ X, xq c d fullShare X) : sProp 𝕄)
    = iprop((∃ X, xq c (nb c 0) fullShare X) ∗ chunks c) := by
  rw [bigSep_univ_equiv (maskEquiv c), bigSep_W0]
  unfold chunks
  rfl

theorem pq_masks : (bigSep Finset.univ fun d : Dev nD => iprop(∃ X, pq c d X) : sProp 𝕄)
    = iprop((∃ X, pq c (nb c 0) X) ∗ others c) := by
  rw [bigSep_univ_equiv (maskEquiv c), bigSep_W0]
  unfold others
  rfl

theorem rq_slots : (bigSep Finset.univ fun j : Fin 7 => iprop(∃ X, rq c j X) : sProp 𝕄) = slots c :=
  bigSep_univ_eq_bigSepL [0, 1, 2, 3, 4, 5, 6] (by decide) (by decide) _

/-- A buffer of the device, whole, at any contents. -/
abbrev anyBuf (b : Ref sig .tc) : sProp 𝕄 :=
  iprop(∃ f : Buf (Elt F) ((c : Thread nD τ).loc b), ((c : Thread nD τ).loc b) ↦{fullShare} f)

theorem x_split : (anyBuf c cc0_scratch0 : sProp 𝕄) ⊢ iprop((∃ X, xq c (nb c 0) fullShare X) ∗ chunks c) := by
  rw [← xq_masks]
  exact pieces_split c cc0_scratch0 (fun d => chunkR (chunkAt d)) (fun _ _ => rfl) chunk_disjoint chunk_cover
theorem x_join : (iprop((∃ X, xq c (nb c 0) fullShare X) ∗ chunks c) : sProp 𝕄) ⊢ anyBuf c cc0_scratch0 := by
  rw [← xq_masks]
  exact pieces_join c cc0_scratch0 (fun d => chunkR (chunkAt d)) (fun _ _ => rfl) chunk_disjoint chunk_cover
theorem p_split : (anyBuf c cc0_scratch1 : sProp 𝕄) ⊢ iprop((∃ X, pq c (nb c 0) X) ∗ others c) := by
  rw [← pq_masks]
  exact pieces_split c cc0_scratch1 (fun d => chunkR (chunkAt d)) (fun _ _ => rfl) chunk_disjoint chunk_cover
theorem p_join : (iprop((∃ X, pq c (nb c 0) X) ∗ others c) : sProp 𝕄) ⊢ anyBuf c cc0_scratch1 := by
  rw [← pq_masks]
  exact pieces_join c cc0_scratch1 (fun d => chunkR (chunkAt d)) (fun _ _ => rfl) chunk_disjoint chunk_cover
theorem r_split : (anyBuf c cc0_scratch2 : sProp 𝕄) ⊢ slots c := by
  rw [← rq_slots]
  exact pieces_split c cc0_scratch2 slotR (fun _ _ => rfl) slot_disjoint slot_cover
theorem r_join : (slots c : sProp 𝕄) ⊢ anyBuf c cc0_scratch2 := by
  rw [← rq_slots]
  exact pieces_join c cc0_scratch2 slotR (fun _ _ => rfl) slot_disjoint slot_cover

end Cert.KernelIdeal.Mlp
-- ==== Proof.Start.lean ====
/-
# The launch's data

What each device's memory holds at the launch, as the inputs of the computation; and the data of the one pallas_call:
what its windows hold before and after, what the body starts from and ends with, and what it owes.
-/
module

public import proofs.«01_k».proof.Proof.Rooms
public import proofs.«01_k».proof.Proof.Gen.KernelIdeal.Points

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The windows' blocks -/

set_option maxRecDepth 4000

/-- A place of a two-dimensional block that begins at the array's first element and is as large. -/
theorem from_zero {a b : ℕ} (i j : (⟨2, ![a, b]⟩ : Shape).Idx) (h₀ : (j 0).val = 0 * a + 1 * (i 0).val) (h₁ : (j 1).val = 0 * b + 1 * (i 1).val) :
    j = i :=
  funext fun x => Fin.ext (by
    match x with
    | 0 => omega
    | 1 => omega)

/- Each window's only block is its whole array. -/
theorem blk_0 (t : Fin grid0.N) (f : Vec F S256x256 .f32) : (win0_0.blk t).view.read (Elt F) f = f :=
  funext fun i => congrArg f (from_zero i _ rfl rfl)
theorem blk_1 (t : Fin grid0.N) (f : Vec F S256x512 .f32) : (win0_1.blk t).view.read (Elt F) f = f :=
  funext fun i => congrArg f (from_zero i _ rfl rfl)
theorem blk_2 (t : Fin grid0.N) (f : Vec F S512x256 .f32) : (win0_2.blk t).view.read (Elt F) f = f :=
  funext fun i => congrArg f (from_zero i _ rfl rfl)
theorem blk_3 (t : Fin grid0.N) (f : Vec F S256x512 .f32) : (win0_3.blk t).view.read (Elt F) f = f :=
  funext fun i => congrArg f (from_zero i _ rfl rfl)
theorem blk_4 (t : Fin grid0.N) (f : Vec F S512x256 .f32) : (win0_4.blk t).view.read (Elt F) f = f :=
  funext fun i => congrArg f (from_zero i _ rfl rfl)
theorem blk_5 (t : Fin grid0.N) (f : Vec F S256x512 .f32) : (win0_5.blk t).view.read (Elt F) f = f :=
  funext fun i => congrArg f (from_zero i _ rfl rfl)
theorem blk_6 (t : Fin grid0.N) (f : Vec F S512x256 .f32) : (win0_6.blk t).view.read (Elt F) f = f :=
  funext fun i => congrArg f (from_zero i _ rfl rfl)

variable (m : (ℓ : Loc nD τ sig) → Buf (Elt F) ℓ)

/-- The inputs a memory holds. -/
def inputs : Inputs F where
  x d := m ((d : Thread nD τ).loc main_arg0)
  wi
    | 0, d => m ((d : Thread nD τ).loc main_arg1)
    | 1, d => m ((d : Thread nD τ).loc main_arg2)
    | _ + 2, d => m ((d : Thread nD τ).loc main_arg3)
  wo
    | 0, d => m ((d : Thread nD τ).loc main_arg4)
    | 1, d => m ((d : Thread nD τ).loc main_arg5)
    | _ + 2, d => m ((d : Thread nD τ).loc main_arg6)

variable (c : Dev nD)

/-! ## The data of the pallas_call -/

/-- What a device's body starts from, besides its buffers. -/
def start : sProp 𝕄 := iprop(∃ K, known (inputs m) K ∗ greetPre c ∗ ghosts c 0)

/-- The kernel's own buffers, at any contents. -/
def bufs : sProp 𝕄 := iprop(anyBuf c cc0_scratch0 ∗ anyBuf c cc0_scratch1 ∗ anyBuf c cc0_scratch2)

def Φ₀ : sProp 𝕄 := iprop(start m c ∗ bufs c)
def Φ₁ : sProp 𝕄 := iprop(bufs c ∗ zeros c ∗ semVal (barCell c) 0)

def dats (_ : Fin 1) (c : Dev nD) : Dat τ (Elt F) ℕ ℕ UU ℕ cfg0 c where
  A w := m ((cfg0.win w).arr.view.loc (c : Thread nD τ))
  after w _ := match w with
    | ⟨0, _⟩ => m ((c : Thread nD τ).loc main_arg0)
    | ⟨1, _⟩ => m ((c : Thread nD τ).loc main_arg1)
    | ⟨2, _⟩ => m ((c : Thread nD τ).loc main_arg4)
    | ⟨3, _⟩ => m ((c : Thread nD τ).loc main_arg2)
    | ⟨4, _⟩ => m ((c : Thread nD τ).loc main_arg5)
    | ⟨5, _⟩ => m ((c : Thread nD τ).loc main_arg3)
    | ⟨6, _⟩ => m ((c : Thread nD τ).loc main_arg6)
    | ⟨7, _⟩ => result (inputs m) c
  Φ t := match t with
    | ⟨0, _⟩ => Φ₀ m c
    | ⟨_ + 1, _⟩ => Φ₁ c
  q _ := fullShare
  owed t := match t with
    | ⟨0, _⟩ => O₀ c
    | ⟨_ + 1, _⟩ => 0

/- What the body finds in the staging buffers of its arguments. -/
theorem before_0 (d) : (dats m 0 c).before 0 t0_0 d = m ((c : Thread nD τ).loc main_arg0) := by
  unfold Dat.before
  rw [if_pos (fetch0_0 t0_0)]
  exact blk_0 (F := F) t0_0 _
theorem before_1 (d) : (dats m 0 c).before 1 t0_0 d = m ((c : Thread nD τ).loc main_arg1) := by
  unfold Dat.before
  rw [if_pos (fetch0_1 t0_0)]
  exact blk_1 (F := F) t0_0 _
theorem before_2 (d) : (dats m 0 c).before 2 t0_0 d = m ((c : Thread nD τ).loc main_arg4) := by
  unfold Dat.before
  rw [if_pos (fetch0_2 t0_0)]
  exact blk_2 (F := F) t0_0 _
theorem before_3 (d) : (dats m 0 c).before 3 t0_0 d = m ((c : Thread nD τ).loc main_arg2) := by
  unfold Dat.before
  rw [if_pos (fetch0_3 t0_0)]
  exact blk_3 (F := F) t0_0 _
theorem before_4 (d) : (dats m 0 c).before 4 t0_0 d = m ((c : Thread nD τ).loc main_arg5) := by
  unfold Dat.before
  rw [if_pos (fetch0_4 t0_0)]
  exact blk_4 (F := F) t0_0 _
theorem before_5 (d) : (dats m 0 c).before 5 t0_0 d = m ((c : Thread nD τ).loc main_arg3) := by
  unfold Dat.before
  rw [if_pos (fetch0_5 t0_0)]
  exact blk_5 (F := F) t0_0 _
theorem before_6 (d) : (dats m 0 c).before 6 t0_0 d = m ((c : Thread nD τ).loc main_arg6) := by
  unfold Dat.before
  rw [if_pos (fetch0_6 t0_0)]
  exact blk_6 (F := F) t0_0 _

end Cert.KernelIdeal.Mlp
-- ==== Proof.Obligation.lean ====
/-
# The body meets the pallas_call's obligation
-/
module

public import proofs.«01_k».proof.Proof.Start

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

set_option maxRecDepth 8000

/-- The body's precondition, its eight staging buffers one by one. -/
def bodyPre : sProp 𝕄 :=
  iprop(Φ₀ m c ∗ (dats m 0 c).owesAt 0 t0_0.castSucc
    ∗ (∃ d, ownsTc c (Memref.whole cc0_stg0_0) fullShare ((dats m 0 c).before 0 t0_0 d))
    ∗ (∃ d, ownsTc c (Memref.whole cc0_stg1_0) fullShare ((dats m 0 c).before 1 t0_0 d))
    ∗ (∃ d, ownsTc c (Memref.whole cc0_stg2_0) fullShare ((dats m 0 c).before 2 t0_0 d))
    ∗ (∃ d, ownsTc c (Memref.whole cc0_stg3_0) fullShare ((dats m 0 c).before 3 t0_0 d))
    ∗ (∃ d, ownsTc c (Memref.whole cc0_stg4_0) fullShare ((dats m 0 c).before 4 t0_0 d))
    ∗ (∃ d, ownsTc c (Memref.whole cc0_stg5_0) fullShare ((dats m 0 c).before 5 t0_0 d))
    ∗ (∃ d, ownsTc c (Memref.whole cc0_stg6_0) fullShare ((dats m 0 c).before 6 t0_0 d))
    ∗ (∃ d, ownsTc c (Memref.whole cc0_stg7_0) fullShare ((dats m 0 c).before 7 t0_0 d)))

/-- Its postcondition. -/
def bodyPost : sProp 𝕄 :=
  iprop(Φ₁ c ∗ (dats m 0 c).owesAt 0 t0_0.succ
    ∗ ownsTc c (Memref.whole cc0_stg0_0) fullShare (m ((c : Thread nD τ).loc main_arg0))
    ∗ ownsTc c (Memref.whole cc0_stg1_0) fullShare (m ((c : Thread nD τ).loc main_arg1))
    ∗ ownsTc c (Memref.whole cc0_stg2_0) fullShare (m ((c : Thread nD τ).loc main_arg4))
    ∗ ownsTc c (Memref.whole cc0_stg3_0) fullShare (m ((c : Thread nD τ).loc main_arg2))
    ∗ ownsTc c (Memref.whole cc0_stg4_0) fullShare (m ((c : Thread nD τ).loc main_arg5))
    ∗ ownsTc c (Memref.whole cc0_stg5_0) fullShare (m ((c : Thread nD τ).loc main_arg3))
    ∗ ownsTc c (Memref.whole cc0_stg6_0) fullShare (m ((c : Thread nD τ).loc main_arg6))
    ∗ ownsTc c (Memref.whole cc0_stg7_0) fullShare (result (inputs m) c))

theorem owes_start : ((dats m 0 c).owesAt 0 t0_0.castSucc : sProp 𝕄) ⊢ iprop(∃ W, owes (c : Thread nD τ) (O₀ c) W) := by
  unfold Dat.owesAt Pipeline.owesWithin
  rw [show (dats m 0 c).owed t0_0.castSucc = O₀ c from rfl]
  iintro ⟨%W, -, H⟩
  iexists W
  iexact H

theorem owes_end : (iprop(∃ W, owes (c : Thread nD τ) 0 W) : sProp 𝕄) ⊢ (dats m 0 c).owesAt 0 t0_0.succ := by
  unfold Dat.owesAt Pipeline.owesWithin
  rw [show (dats m 0 c).owed t0_0.succ = 0 from rfl]
  iintro ⟨%W, H⟩
  iexists W; isplitr
  · ipureintro; exact fun _ _ => Or.inl trivial
  · iexact H

set_option maxHeartbeats 1000000 in
/-- The body runs from the one to the other. -/
theorem body_run : (bodyPre m c : sProp 𝕄) ⊢ runs c
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4) (fun _ => bodyPost m c) := by
  rw [body_eq]
  unfold runs
  rw [wp_deviceId, copyOff_eq, vecOff_eq]
  unfold bodyPre Φ₀ start bufs
  simp only [before_0, before_1, before_2, before_3, before_4, before_5, before_6]
  iintro ⟨⟨⟨%K, #HK, Hg, HG⟩, Bx, Bp, Br⟩, HO, ⟨%_, I0⟩, ⟨%_, I1⟩, ⟨%_, I2⟩, ⟨%_, I3⟩, ⟨%_, I4⟩, ⟨%_, I5⟩, ⟨%_, I6⟩, ⟨%d, I7⟩⟩
  ihave Hx := (x_split c) $$ Bx
  icases Hx with ⟨X0, Hx⟩
  ihave Hp := (p_split c) $$ Bp
  icases Hp with ⟨P0, Hp⟩
  ihave Hr := (r_split c) $$ Br
  ihave HO := (owes_start m c) $$ HO
  iapply (whole_run (inputs m) K c (fun _ => bodyPost m c) (Memref.whole cc0_stg0_0) (Memref.whole cc0_stg7_0)
    (Memref.whole cc0_stg1_0) (Memref.whole cc0_stg3_0) (Memref.whole cc0_stg5_0)
    (Memref.whole cc0_stg2_0) (Memref.whole cc0_stg4_0) (Memref.whole cc0_stg6_0)
    ⟨k0_dev1 c, k0_dev1_lt c⟩ ⟨k0_dev2 c, k0_dev2_lt c⟩ ⟨k0_dev3 c, k0_dev3_lt c⟩ (greet_x c) (greet_y c) (greet_z c)
    (peers0 c) (peers1 c) (peers2 c) (congrFun (peers0_eq c)) (congrFun (peers1_eq c)) (congrFun (peers2_eq c)))
    $$ HK Hg X0 Hx P0 Hp Hr HG HO [I0] [I1 I2 I3 I4 I5 I6] [I7]
  · iexact I0
  · unfold weights
    isplitl [I1]; · iexact I1
    isplitl [I2]; · iexact I2
    isplitl [I3]; · iexact I3
    isplitl [I4]; · iexact I4
    isplitl [I5]; · iexact I5
    iexact I6
  · iexists _; iexact I7
  unfold wholePost weights
  iintro ⟨⟨X0, Hx, P0, Hp, Hr, Hz, Hb, HO⟩, I0, ⟨I1, I2, I3, I4, I5, I6⟩, I7⟩
  ihave Bx := (x_join c) $$ [X0 Hx]
  · iframe
  ihave Bp := (p_join c) $$ [P0 Hp]
  · iframe
  ihave Br := (r_join c) $$ Hr
  ihave HO := (owes_end m c) $$ HO
  unfold bodyPost Φ₁ bufs
  iframe Bx Bp Br Hz Hb HO I0 I7
  isplitl [I1]; · iexact I1
  isplitl [I2]; · iexact I2
  isplitl [I3]; · iexact I3
  isplitl [I4]; · iexact I4
  isplitl [I5]; · iexact I5
  iexact I6

set_option maxRecDepth 100000 in
/-- The obligation. -/
theorem body_obligation : BodyObligation (dats (F := F) m 0 c) (defs₀ (F := F)) 𝒱₀ 0 Set.univ := fun t => by
  obtain rfl : t = t0_0 := fin_N0 t
  rw [bigSep_W0, bigSep_W0]
  exact body_run m c

end Cert.KernelIdeal.Mlp
-- ==== Proof.Deal.lean ====
/-
# The launch deals the cells and the tokens
-/
module

public import proofs.«01_k».proof.Proof.Obligation

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Conjunctions over the cells -/

theorem bigSep_cells (Φ : Cell → sProp 𝕄) : bigSep Finset.univ Φ = iprop(Φ none ∗ bigSep Finset.univ fun x : Bool × Fin 14 => Φ (some x)) := by
  rw [bigSep_univ_equiv (Equiv.optionEquivSumPUnit.{0} (Bool × Fin 14)).symm Φ, bigSep_univ_sum, bigSep_univ_of_subsingleton PUnit.unit]
  exact BI.Entails.antisymm BI.sep_comm BI.sep_comm

theorem bigSep_copies (Φ : Bool × Fin 14 → sProp 𝕄) :
    bigSep Finset.univ Φ = bigSep Finset.univ fun k : Fin 14 => iprop(Φ (false, k) ∗ Φ (true, k)) := by
  rw [bigSep_univ_prod, bigSep_univ_eq_bigSepL [false, true] (by decide) (by decide), bigSep_sep']
  rfl

theorem bigSep_three (Φ : Fin 3 → sProp 𝕄) : bigSep Finset.univ Φ = iprop(Φ 0 ∗ Φ 1 ∗ Φ 2) :=
  bigSep_univ_eq_bigSepL [0, 1, 2] (by decide) (by decide) Φ

theorem bigSep_layers (Φ : ℕ → sProp 𝕄) : bigSep (Finset.Ico 0 3) Φ = bigSep Finset.univ fun r : Fin 3 => Φ r.val := by
  rw [bigSep_three, bigSep_eq_bigSepL_of_eq [0, 1, 2] (by decide) (by decide)]
  rfl

/-- A conjunction over the devices and another index may be taken with the devices moved by masks. -/
theorem bigSep_move {A : Type} [Fintype A] (way : A → Fin 8) (Φ : Dev nD → A → sProp 𝕄) :
    (bigSep Finset.univ fun c : Dev nD => bigSep Finset.univ fun a : A => Φ c a)
      = bigSep Finset.univ fun c : Dev nD => bigSep Finset.univ fun a : A => Φ (nb c (way a)) a := by
  rw [bigSep_univ_comm]
  exact (bigSep_congr fun a _ => bigSep_univ_equiv (nbEquiv (way a)) fun c => Φ c a).trans (bigSep_univ_comm _)

/-! ## The cells -/

theorem csem_injective : Function.Injective csem := by
  have h (x : Cell) : role (csem x) = match x with | none => .bar | some (false, k) => .send k | some (true, k) => .recv k := by
    match x with
    | none => exact role_bar
    | some (false, k) => exact role_send k
    | some (true, k) => exact role_recv k
  intro x y e
  have e := (h x).symm.trans ((congrArg role e).trans (h y))
  match x, y with
  | none, none => rfl
  | some (false, k), some (false, j) => cases e; rfl
  | some (true, k), some (true, j) => cases e; rfl
  | none, some (false, j) => cases e
  | none, some (true, j) => cases e
  | some (false, k), none => cases e
  | some (true, k), none => cases e
  | some (false, k), some (true, j) => cases e
  | some (true, k), some (false, j) => cases e

theorem gcell_injective : Function.Injective (gcell : Dev nD × Cell → GSem nD τ sig) := by
  rintro ⟨c, x⟩ ⟨d, y⟩ e
  obtain rfl : c = d := congrArg (fun g : GSem nD τ sig => g.1.1) e
  exact congrArg _ (csem_injective (congrArg Prod.snd e))

def allCells : Finset (GSem nD τ sig) := Finset.univ.map ⟨gcell, gcell_injective⟩

/-- A token: a cell and one of three numbers, which for the barrier cell is the duty of its only round, and for the others
    the round of the only duty. -/
abbrev Tok : Type := Cell × Fin 3
abbrev tokAt (c : Dev nD) : Tok → GSem nD τ sig × ℕ × Duty
  | (none, d) => (barCell c, 0, d)
  | (some x, r) => (gcell (c, some x), r.val, 0)

theorem tokAt_injective : Function.Injective fun x : Dev nD × Tok => tokAt x.1 x.2 := by
  rintro ⟨c, x, r⟩ ⟨d, y, s⟩ e
  have hg : gcell (c, x) = gcell (d, y) := by
    have := congrArg Prod.fst e
    match x, y with
    | none, none => exact this
    | some x, none => exact this
    | none, some x => exact this
    | some x, some y => exact this
  obtain ⟨rfl, rfl⟩ := Prod.mk.inj (gcell_injective hg)
  match x with
  | none => obtain rfl : r = s := congrArg (fun t : GSem nD τ sig × ℕ × Duty => t.2.2) e; rfl
  | some x => obtain rfl : r = s := Fin.ext (congrArg (fun t : GSem nD τ sig × ℕ × Duty => t.2.1) e); rfl

def allToks : Finset (GSem nD τ sig × ℕ × Duty) := Finset.univ.map ⟨fun x : Dev nD × Tok => tokAt x.1 x.2, tokAt_injective⟩

/-- The launch's element: the pipeline's own cells and the kernel's. -/
def u₀ : UU := (initOf (Pipeline.cells cfgs cellOf_inj) (Pipeline.launchToks cfgs cellOf_inj), initOf allCells allToks)

/-- The token `t` of device `c`'s cells. -/
def tok (c : Dev nD) (t : Tok) : sProp 𝕄 := dutyTok ER (tokAt c t).1 (tokAt c t).2.1 (tokAt c t).2.2

/-- What the launch's element deals device `c`. -/
def G (c : Dev nD) : sProp 𝕄 :=
  iprop((bigSep Finset.univ fun x : Cell => roundState ER (sched (inputs m)) (gcell (c, x)) 0)
    ∗ (bigSep Finset.univ fun x : Cell => iprop(atPos ER (gcell (c, x)) 0 ∅ 0 ∗ reached ER (gcell (c, x)) 0))
    ∗ bigSep Finset.univ fun t : Tok => tok c t)

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun x : Cell => Φ (gcell (c, x)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun t : Tok => tok c t := by
    unfold allToks; rw [bigSep_map, bigSep_univ_prod]; rfl
  iintro HX
  imod (Rounds.fund ER (sched (inputs m)) allCells allToks) $$ HX with ⟨Hst, Hr, Hat, Htok⟩
  imodintro
  ihave Hst := (Entails.of_eq (hX fun g => roundState ER (sched (inputs m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

/-! ## The semaphores -/

theorem ownSemFacts : Pipeline.OwnSemFacts cfg0.spec osem := by decide

/-- The kernel's own semaphores are those of its copies. -/
theorem ownSems0_eq (c : Dev nD) :
    (Pipeline.ownSems0 (Ix := ℕ) (Name := ℕ) (U := UU) (Lvl := ℕ) (Val := Elt F) (τ := τ) osem c : sProp 𝕄) = zeros c := rfl

/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Each device's cells get their invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (sched (inputs m)) κ (gcell (c, x))))
          ∗ (bigSep Finset.univ fun x : Cell => iprop(atPos ER (gcell (c, x)) 0 ∅ 0 ∗ reached ER (gcell (c, x)) 0))
          ∗ bigSep Finset.univ fun t : Tok => tok c t) := by
  have h : iprop((bigSep Finset.univ fun x : Cell => semVal (gcell (c, x)) 0)
      ∗ bigSep Finset.univ fun x : Cell => roundState ER (sched (inputs m)) (gcell (c, x)) 0)
      ⊢ (|={Set.univ}=> bigSep Finset.univ fun x : Cell => iprop(∃ κ : ℕ, cellInv ER (sched (inputs m)) κ (gcell (c, x))) : sProp 𝕄) := by
    rw [← bigSep_sep']
    exact (bigSep_mono fun x _ => (Rounds.body_intro ER (sched (inputs m)) (gcell (c, x))).trans inv_alloc).trans (bigSep_fupd _ _)
  rw [bigSep_cells fun x : Cell => semVal (gcell (c, x)) 0] at h
  rw [ownSems0_eq, unscopedSems0_eq]
  unfold G zeros
  iintro ⟨Hos, Hus, Hst, Hat, Htok⟩
  imod h $$ [Hos Hus Hst] with HI
  · isplitl [Hos Hus]
    · isplitl [Hus]; · iexact Hus
      iexact Hos
    iexact Hst
  imodintro
  iframe HI Hat Htok

/-! ## The tokens go to the devices that pay with them -/

/-- The mask from the device whose cell a token is of to the device that pays with it. -/
def wayOf : Tok → Fin 8
  | (none, d) => (![1, 3, 4] : Fin 3 → Fin 8) d
  | (some (false, _), _) => 0
  | (some (true, k), _) => hop k

/-- What a device keeps of the launch, besides the credits. -/
def kept₀ (c : Dev nD) : sProp 𝕄 :=
  iprop((bigSep Finset.univ fun x : Cell => atPos ER (gcell (c, x)) 0 ∅ 0) ∗ bigSep Finset.univ fun t : Tok => tok (nb c (wayOf t)) t)

def allReached : sProp 𝕄 := bigSep Finset.univ fun x : Dev nD × Cell => reached ER (gcell x) 0

instance allReached_persistent : BI.Persistent (allReached : sProp 𝕄) := by unfold allReached; infer_instance

theorem reached_at (x : Dev nD × Cell) : (allReached : sProp 𝕄) ⊢ reached ER (gcell x) 0 := BI.bigSep_elim (Finset.mem_univ x)

/-- What a device has once all cells are set up. -/
def G' (c : Dev nD) : sProp 𝕄 := iprop(∃ K, records (inputs m) K ∗ allReached ∗ kept₀ c)

theorem spread {R : sProp 𝕄} [BI.Persistent R] (Φ : Dev nD → sProp 𝕄) :
    iprop(R ∗ bigSep Finset.univ Φ) ⊢ bigSep Finset.univ fun c => iprop(R ∗ Φ c) := by
  rw [bigSep_sep']
  exact sep_mono_left (BI.bigSep_of_persistent Finset.univ R)

theorem regroup :
    (bigSep Finset.univ fun c : Dev nD => iprop((bigSep Finset.univ fun x : Cell => iprop(∃ κ : ℕ, cellInv ER (sched (inputs m)) κ (gcell (c, x))))
          ∗ (bigSep Finset.univ fun x : Cell => iprop(atPos ER (gcell (c, x)) 0 ∅ 0 ∗ reached ER (gcell (c, x)) 0))
          ∗ bigSep Finset.univ fun t : Tok => tok c t) : sProp 𝕄)
      ⊢ bigSep Finset.univ (G' m) := by
  simp only [bigSep_sep']
  rw [← bigSep_univ_prod (fun x : Dev nD × Cell => iprop(∃ κ : ℕ, cellInv ER (sched (inputs m)) κ (gcell x))),
    ← bigSep_univ_prod (fun x : Dev nD × Cell => (reached ER (gcell x) 0 : sProp 𝕄)), bigSep_move wayOf]
  iintro ⟨HI, ⟨Hat, #HR⟩, Htok⟩
  ihave HK := (BI.bigSep_exists_pi Finset.univ (fun (x : Dev nD × Cell) (κ : ℕ) => (cellInv ER (sched (inputs m)) κ (gcell x) : sProp 𝕄))) $$ HI
  icases HK with ⟨%K, #HI⟩
  ihave Hk := (Entails.of_eq (bigSep_sep' Finset.univ (fun c : Dev nD => bigSep Finset.univ fun x : Cell => (atPos ER (gcell (c, x)) 0 ∅ 0 : sProp 𝕄))
    (fun c => bigSep Finset.univ fun t : Tok => tok (nb c (wayOf t)) t)).symm) $$ [Hat Htok]
  · isplitl [Hat]; · iexact Hat
    iexact Htok
  ihave Hall := (spread (R := iprop(records (inputs m) K ∗ allReached)) kept₀) $$ [Hk]
  · isplitr
    · unfold records allReached
      isplitl; · iexact HI
      iexact HR
    iexact Hk
  have h : (bigSep Finset.univ fun c => iprop((records (inputs m) K ∗ allReached) ∗ kept₀ c) : sProp 𝕄) ⊢ bigSep Finset.univ (G' m) :=
    bigSep_mono fun c _ => by
      show (_ : sProp 𝕄) ⊢ _
      unfold G'
      iintro ⟨⟨HI, HR⟩, Hk⟩
      iexists K
      iframe HI HR Hk
  iapply h $$ Hall

/-- The launch's step over all devices. -/
theorem glob :
    (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

end Cert.KernelIdeal.Mlp
-- ==== Proof.Run.lean ====
/-
# The launch, and the run of `main`
-/
module

public import proofs.«01_k».proof.Proof.Deal
public import Idealize.ShloMosaic.Lib.Pipeline.CollectiveSegs

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

/-! ## The credits -/

/-- The places of the order of copies are the copies and the layers. -/
theorem sum_places {A : Type} [AddCommMonoid A] (f : Fin 14 → ℕ → A) :
    ∑ i ∈ Finset.Ico 0 42, f (seqOf i) (i / 14) = ∑ k : Fin 14, ∑ r ∈ Finset.Ico 0 3, f k r := by
  rw [← Finset.sum_product']
  refine Finset.sum_bij' (fun i _ => (seqOf i, i / 14)) (fun p _ => 14 * p.2 + pos p.1) ?_ ?_ ?_ ?_ ?_
  · intro i hi; simp only [Finset.mem_Ico, Finset.mem_product, Finset.mem_univ, true_and] at hi ⊢; omega
  · intro p hp
    have := pos_lt p.1
    simp only [Finset.mem_Ico, Finset.mem_product, Finset.mem_univ, true_and] at hp ⊢; omega
  · intro i _; dsimp only; rw [pos_seqOf]; omega
  · intro p _
    have := pos_lt p.1
    refine Prod.ext (seqOf_pos _ _) ?_
    dsimp only; omega
  · intro i _; rfl

theorem nb_cred (sm : SemLoc sig) (q : Fin 8) (u n : ℕ) :
    (Pipeline.launchCred (fun d => tallyAt ((nb d q : Thread nD τ), sm) u n) c : sProp 𝕄) ⊢ cred (tallyAt ((c : Thread nD τ), sm) u n) :=
  Pipeline.launchCred_tallyAt sm (fun d => nb d q) (fun d => nb d q) (fun d => nb_nb d q) (fun d => nb_nb d q) u n c

theorem copy_creds : (Pipeline.launchCred (fun d => owed d 0) c : sProp 𝕄)
    ⊢ bigSep Finset.univ fun k : Fin 14 => bigSep (Finset.Ico 0 3) fun r => cred (tallyAt (recvCell c k) r N) := by
  unfold owed
  rw [Pipeline.launchCred_sum]
  refine BIBase.Entails.trans (bigSep_mono (Ψ := fun i => cred (tallyAt (recvCell c (seqOf i)) (i / 14) N))
    fun i _ => nb_cred c (.dma (recvS (seqOf i))) (hop (seqOf i)) (i / 14) N) (Entails.of_eq ?_)
  rw [← Pipeline.cred_finsetSum, sum_places fun k r => tallyAt (recvCell c k) r N, Pipeline.cred_finsetSum]
  exact bigSep_congr fun k _ => Pipeline.cred_finsetSum _ _

/-- The credits the launch deals a device: its barrier's three, and those of its receive cells. -/
theorem creds : (Pipeline.launchCred O₀ c : sProp 𝕄)
    ⊢ iprop(cred (tallyAt (barCell c) 0 3) ∗ bigSep Finset.univ fun k : Fin 14 => bigSep (Finset.Ico 0 3) fun r => cred (tallyAt (recvCell c k) r N)) := by
  rw [show (O₀ : Dev nD → CellTallies nD τ sig ℕ)
      = fun d => (owed d 0 + tallyAt (barCell (nb d 4)) 0 1 + tallyAt (barCell (nb d 3)) 0 1) + tallyAt (barCell (nb d 1)) 0 1 from rfl,
    Pipeline.launchCred_add, Pipeline.launchCred_add, Pipeline.launchCred_add,
    show (tallyAt (barCell c) 0 3 : CellTallies nD τ sig ℕ) = tallyAt (barCell c) 0 1 + tallyAt (barCell c) 0 1 + tallyAt (barCell c) 0 1 from by
      rw [tallyAt_add, tallyAt_add]]
  iintro ⟨⟨⟨Ho, H4⟩, H3⟩, H1⟩
  ihave Ho := (copy_creds c) $$ Ho
  ihave H4 := (nb_cred c (.reg barS) 4 0 1) $$ H4
  ihave H3 := (nb_cred c (.reg barS) 3 0 1) $$ H3
  ihave H1 := (nb_cred c (.reg barS) 1 0 1) $$ H1
  isplitl [H4 H3 H1]
  · iapply (cred_add _ _).2
    isplitl [H4 H3]
    · iapply (cred_add _ _).2
      isplitl [H4]; · iexact H4
      iexact H3
    iexact H1
  iexact Ho

/-! ## What a device starts from -/

/-- The tokens of the copies, copy by copy and layer by layer. -/
theorem kept_toks : (bigSep Finset.univ fun t : Tok => tok (nb c (wayOf t)) t : sProp 𝕄)
    = iprop((dutyTok ER (barCell (nb c 1)) 0 0 ∗ dutyTok ER (barCell (nb c 3)) 0 1 ∗ dutyTok ER (barCell (nb c 4)) 0 2)
      ∗ bigSep Finset.univ fun k : Fin 14 => iprop((bigSep (Finset.Ico 0 3) fun r => dutyTok ER (sendCell c k) r 0)
        ∗ bigSep (Finset.Ico 0 3) fun r => dutyTok ER (recvCell (nb c (hop k)) k) r 0)) := by
  rw [bigSep_univ_prod, bigSep_cells, bigSep_three, bigSep_copies]
  simp only [bigSep_layers]
  have h (k : Fin 14) (r : Fin 3) : (tok (nb c (wayOf (some (false, k), r))) (some (false, k), r) : sProp 𝕄) = dutyTok ER (sendCell c k) r.val 0 := by
    show tok (nb c 0) _ = _
    rw [nb_zero]; rfl
  simp only [h]
  rfl

theorem kept_poss : (bigSep Finset.univ fun x : Cell => atPos ER (gcell (c, x)) 0 ∅ 0 : sProp 𝕄)
    = iprop(atPos ER (barCell c) 0 ∅ 0 ∗ bigSep Finset.univ fun k : Fin 14 => iprop(atPos ER (sendCell c k) 0 ∅ 0 ∗ atPos ER (recvCell c k) 0 ∅ 0)) := by
  rw [bigSep_cells, bigSep_copies]
  rfl

theorem ghost_make (k : Fin 14) :
    iprop(allReached ∗ (atPos ER (sendCell c k) 0 ∅ 0 ∗ atPos ER (recvCell c k) 0 ∅ 0)
      ∗ ((bigSep (Finset.Ico 0 3) fun r => dutyTok ER (sendCell c k) r 0) ∗ (bigSep (Finset.Ico 0 3) fun r => dutyTok ER (recvCell (nb c (hop k)) k) r 0))
      ∗ (bigSep (Finset.Ico 0 3) fun r => cred (tallyAt (recvCell c k) r N))) ⊢ (ghost c k 0 : sProp 𝕄) := by
  unfold ghost future
  simp only [bigSep_sep']
  iintro ⟨#HR, ⟨HaS, HaR⟩, ⟨HtS, HtR⟩, Hc⟩
  iframe HaS HaR HtS HtR Hc
  isplitr
  · iapply (reached_at (c, some (false, k))); iexact HR
  · iapply (reached_at (c, some (true, k))); iexact HR

/-- The handshake's part, the copies' parts. -/
theorem start_make (K : Dev nD × Cell → ℕ) :
    iprop(records (inputs m) K ∗ levAts L lv ∗ allReached ∗ kept₀ c ∗ Pipeline.launchCred O₀ c) ⊢ (start m c : sProp 𝕄) := by
  unfold kept₀ start known greetPre
  rw [kept_toks, kept_poss, ← ghosts_eq]
  iintro ⟨HI, Hlev, #HR, ⟨⟨HaB, Hat⟩, ⟨Ht1, Ht3, Ht4⟩, Htok⟩, Hcr⟩
  ihave Hcr := (creds c) $$ Hcr
  icases Hcr with ⟨HcB, Hcr⟩
  iexists K
  iframe HI Hlev HaB HcB Ht1 Ht3 Ht4
  isplitr
  · isplitr; · iapply (reached_at (nb c 1, none)); iexact HR
    isplitr; · iapply (reached_at (nb c 3, none)); iexact HR
    iapply (reached_at (nb c 4, none)); iexact HR
  have h : iprop(allReached ∗ bigSep Finset.univ fun k : Fin 14 => iprop((atPos ER (sendCell c k) 0 ∅ 0 ∗ atPos ER (recvCell c k) 0 ∅ 0)
      ∗ ((bigSep (Finset.Ico 0 3) fun r => dutyTok ER (sendCell c k) r 0) ∗ (bigSep (Finset.Ico 0 3) fun r => dutyTok ER (recvCell (nb c (hop k)) k) r 0))
      ∗ (bigSep (Finset.Ico 0 3) fun r => cred (tallyAt (recvCell c k) r N)))) ⊢ (bigSep Finset.univ fun k : Fin 14 => ghost c k 0 : sProp 𝕄) :=
    (sep_mono_left (BI.bigSep_of_persistent Finset.univ allReached)).trans (by
      rw [← bigSep_sep']
      exact bigSep_mono fun k _ => ghost_make c k)
  iapply h
  isplitr; · iexact HR
  simp only [bigSep_sep']
  iframe Hat Htok Hcr

theorem start_intro (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HI, HR, Hk⟩⟩
  imodintro
  isplitl
  · iapply (start_make m c K)
    iframe HI Hlev HR Hk Hcr
  · iempintro

/-! ## The launch theorem's other conditions -/

theorem scoped_bufs : (Pipeline.scopedRest (Ix := ℕ) (Name := ℕ) (U := UU) (Lvl := ℕ) (Val := Elt F) (τ := τ) cfg0.spec c : sProp 𝕄) = bufs c := by
  rw [scopedRest0_eq]; rfl

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scoped_bufs]
  unfold Φ₀
  iintro ⟨Hs, -, Hr⟩
  iframe Hs Hr

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scoped_bufs, ownSems0_eq, unscopedSems0_eq]
  unfold Φ₁
  iintro ⟨Hr, Hz, Hb⟩
  iframe Hb Hz Hr

theorem share_eq (w : Fin cfg0.W) : (dats m 0 c).share w = fullShare := by unfold Dat.share; split <;> rfl

/-- What is owed at launch is above the staging semaphores. -/
theorem O₀_lv {g : GSem nD τ sig} {u : ℕ} (h : 0 < O₀ c g u) : u ∈ L g ∧ 0 < lv g u := by
  have hb (q : Fin 8) (h : 0 < tallyAt (barCell (nb c q)) 0 1 g u) : u ∈ L g ∧ 0 < lv g u := by
    obtain ⟨rfl, rfl⟩ := Pipeline.tallyAt_pos h
    exact ⟨mem_L _ _ (by decide), by rw [lv_bar]; decide⟩
  unfold O₀ at h
  rw [Pi.add_apply, Finsupp.add_apply, Pi.add_apply, Finsupp.add_apply, Pi.add_apply, Finsupp.add_apply] at h
  by_cases h1 : 0 < tallyAt (barCell (nb c 1)) 0 1 g u
  · exact hb 1 h1
  by_cases h3 : 0 < tallyAt (barCell (nb c 3)) 0 1 g u
  · exact hb 3 h3
  by_cases h4 : 0 < tallyAt (barCell (nb c 4)) 0 1 g u
  · exact hb 4 h4
  · have := owed_lv (c := c) (n := 0) (g := g) (u := u) (by omega)
    exact ⟨this.1, by omega⟩

theorem mayWait_stage (sm : SemLoc sig) (h : role sm = .other) {O : CellTallies nD τ sig ℕ} (hO : O = O₀ c ∨ O = 0) :
    (levAts L lv : sProp 𝕄) ⊢ MayWait (c : Thread nD τ) sm 0 O := by
  obtain rfl | rfl := hO
  · exact MayOwe.of_cut (L := L) (lev := lv) 0
      (fun p hp => by rw [Finset.mem_singleton.mp hp]; exact mem_L c sm (show (0 : ℕ) < 3 by decide))
      (fun g v hg => (O₀_lv c hg).1)
      (fun p hp => by rw [Finset.mem_singleton.mp hp]; show lvOf (role sm) 0 ≤ 0; rw [h]; exact Nat.le_refl 0)
      (fun g v hg => (O₀_lv c hg).2)
  · rw [MayWait_zero]
    iintro -
    iempintro

theorem stage_role (w : Fin cfg0.W) (s : Fin (cfg0.win w).nbuf) : role (.dma ((cfg0.win w).sem s)) = .other :=
  if_pos (by fin_cases w <;> fin_cases s <;> decide)

theorem waits : (levAts L lv : sProp 𝕄) ⊢ Pipeline.cellsWaits cfgs (dats m) 0 0 c :=
  Pipeline.cellsWaits_intro cfgs (dats m) 0 0 c fun w s t =>
    mayWait_stage c _ (stage_role w s) (by
      rcases t with ⟨_ | _, ht⟩
      · exact Or.inl rfl
      · exact Or.inr rfl)

/-! ## The run -/

/-- The array of window `w` on device `c` after the run. -/
def finalA (w : Fin cfg0.W) : Buf (Elt F) ((cfg0.win w).arr.view.loc (c : Thread nD τ)) := (dats m 0 c).arrAt w cfg0.N

set_option maxRecDepth 100000 in
/-- From any memory with zero counters every weakly fair execution of `main` on the eight devices ends, each device's
    windowed arrays at their final contents and every counter zero. -/
theorem run_main (ρ : Dev nD → PrngReg) : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mlp
-- ==== Proof.Result.lean ====
/-
# What the arrays hold after the run
-/
module

public import proofs.«01_k».proof.Proof.Run
public import Idealize.ShloMosaic.Lib.Pipeline.Value

@[expose] public section

noncomputable section

namespace Cert.KernelIdeal.Mlp

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (c : Dev nD)

theorem blk_7 (t : Fin grid0.N) (f : Vec F S256x256 .f32) : (win0_7.blk t).view.read (Elt F) f = f :=
  funext fun i => congrArg f (from_zero i _ rfl rfl)

/-- The write-back of the result window writes the result. -/
theorem flushed_eq (t : Fin cfg0.N) : (dats m 0 c).flushed 7 t = ((cfg0.win 7).blk t).view.read (Elt F) (result (inputs m) c) := by
  have ha : (dats m 0 c).after 7 t = result (inputs m) c := rfl
  unfold Pipeline.Dat.flushed
  rw [ha]
  exact (blk_7 (F := F) t _).symm ▸ rfl

/-- It covers the whole array. -/
theorem cover (i : S256x256.Idx) : ∃ t : Fin cfg0.N, (cfg0.win 7).flush t = true ∧ i ∈ ((cfg0.win 7).blk t).view.set := by
  refine ⟨t0_0, flush0_7 _, ?_⟩
  show i ∈ ((View.whole main_v1).slice (win0_7.rect t0_0)).set
  rw [View.set_slice_whole, Rect.mem_set_unit]
  have h0 : (i 0 : ℕ) < 256 := (i 0).isLt
  have h1 : (i 1 : ℕ) < 256 := (i 1).isLt
  intro a
  match a with
  | ⟨0, _⟩ => exact ⟨Nat.zero_le _, h0⟩
  | ⟨1, _⟩ => exact ⟨Nat.zero_le _, h1⟩

theorem finalA_7 : finalA m c 7 = result (inputs m) c :=
  (dats m 0 c).arrAt_eq_of_cover 7 (result (inputs m) c) (fun t _ => flushed_eq m c t) cover

set_option maxRecDepth 100000 in
/-- From any memory with zero counters every weakly fair execution of `main` on the eight devices ends with each device's
    result array at the device's result, its arguments as they were, and every counter zero. -/
theorem run_result (ρ : Dev nD → PrngReg) : θ_run defs (onTc (τ := τ) (main (F := F))) (s₀ m ρ)
    (fun r => (∀ c : Dev nD, r.2.mem ((c.tc : Thread nD τ).loc main_v1) = result (inputs m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c 7).trans (finalA_7 m c),
      (h.1 c 0).trans ((dats m 0 c).arrAt_in 0 rfl _),
      (h.1 c 1).trans ((dats m 0 c).arrAt_in 1 rfl _),
      (h.1 c 3).trans ((dats m 0 c).arrAt_in 3 rfl _),
      (h.1 c 5).trans ((dats m 0 c).arrAt_in 5 rfl _),
      (h.1 c 2).trans ((dats m 0 c).arrAt_in 2 rfl _),
      (h.1 c 4).trans ((dats m 0 c).arrAt_in 4 rfl _),
      (h.1 c 6).trans ((dats m 0 c).arrAt_in 6 rfl _)⟩, h.2⟩) (run_main m ρ)

/-- The part of it that a frame says. -/
theorem run_frame (ρ : Dev nD → PrngReg) : θ_run defs (onTc (τ := τ) (main (F := F))) (s₀ m ρ)
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2, h.2⟩) (run_result m ρ)

end Cert.KernelIdeal.Mlp
-- ==== Proof.Value.lean ====
/-
# The result is the reference's

Over the extended reals a chunk's sum over all eight devices is the reference's layer, restricted to the chunk: each
device holds an eighth of the hidden dimension, so its partial product is the part of the layer's second product over
that eighth, and a sum may be taken in any order.
-/
module

public import proofs.«01_k».proof.ReferenceIdeal
public import proofs.«01_k».proof.Proof.Contents
public import proofs.«01_k».proof.Proof.Gen.ReferenceIdeal
public import Idealize.ShloMosaic.Lib.MatmulPlain
public import Idealize.ShloMosaic.Lib.IdealHost
public import Idealize.ShloMosaic.Lib.ValueIdx
public import Idealize.ShloMosaic.Lib.Layout
public import Idealize.ShloMosaic.Lib.Pipeline.Value

@[expose] public section

noncomputable section

namespace Cert.KernelIdeal.Mlp

open Cert.KernelIdeal.Gen
open Idealize.ShloMosaic Idealize.ShloMosaic.ValueIdx
open scoped BigOperators

/-- A matrix of extended reals. -/
abbrev Mat (M N : ℕ) : Type := FVec Ideal ⟨2, ![M, N]⟩ .f32

/-- Hidden unit `k`'s share of entry `(r, j)` of a layer: the unit's activation, cut off below at zero, by its weight. -/
def share {M K : ℕ} (x : Mat M 256) (wi : Mat 256 K) (wo : Mat K 256) (r : Fin M) (j : Fin 256) (k : Fin K) : EReal :=
  max (∑ i : Fin 256, x (ix2 r i) * wi (ix2 i k)) 0 * wo (ix2 k j)

/-- Two products onto zero with a cut-off at zero between them sum the shares of the hidden units. -/
theorem layer_apply {M K : ℕ} (x : Mat M 256) (wi : Mat 256 K) (wo : Mat K 256) (z₁ z₂ : Mat M K) (z₃ : Mat M 256)
    (h₁ : ∀ i, z₁ i = 0) (h₂ : ∀ i, z₂ i = 0) (h₃ : ∀ i, z₃ i = 0) (r : Fin M) (j : Fin 256) :
    FloatOps.matmul (DotDims.plain M K 256) none
      (maximumf (FloatOps.matmul (DotDims.plain M 256 K) none x wi z₁ : Mat M K) z₂) wo z₃ (ix2 r j) = ∑ k : Fin K, share x wi wo r j k := by
  rw [Ideal.matmul_plain_apply, h₃, zero_add]
  refine Finset.sum_congr rfl fun k _ => ?_
  rw [maximumf_apply, Ideal.matmul_plain_apply, h₁, h₂, zero_add]
  rfl

/-- The zero word reads as zero. -/
theorem zero_read (S : Shape) (i : S.Idx) : constant (F := Ideal) S .f32 0x00000000#32 i = 0 := Ideal.ofBits_zero_f32

/-- A device's partial product sums the shares of its hidden units. -/
theorem mlpV_apply (x : Mat 256 256) (wi : Mat 256 512) (wo : Mat 512 256) (r j : Fin 256) :
    mlpV (F := Ideal) x wi wo (ix2 r j) = ∑ k : Fin 512, share x wi wo r j k := by
  unfold mlpV k0_pay5
  simp only [shapeCast_self]
  exact layer_apply x wi wo _ _ _ (zero_read _) (fun _ => Ideal.ofBits_zero_f32) (zero_read _) r j

/-- The reference's layer. -/
def refLayer (X : Mat 2048 256) (Wi : Mat 256 4096) (Wo : Mat 4096 256) : Mat 2048 256 :=
  Host.dotGeneral Cert.ReferenceIdeal.dot_S2048x4096_S4096x256_S2048x256_1_0_0_1_n_n none
    (maximumf (Host.dotGeneral Cert.ReferenceIdeal.dot_S2048x256_S256x4096_S2048x4096_1_0_0_1_n_n none X Wi)
      (broadcastInDim Cert.ReferenceIdeal.S2048x4096 ![] Cert.ReferenceIdeal.Facts₀.bcast_S_S2048x4096
        (constant Cert.ReferenceIdeal.S_ .f32 0x00000000#32))) Wo

/-- It sums the shares of all hidden units. -/
theorem refLayer_apply (X : Mat 2048 256) (Wi : Mat 256 4096) (Wo : Mat 4096 256) (r : Fin 2048) (j : Fin 256) :
    refLayer X Wi Wo (ix2 r j) = ∑ k : Fin 4096, share X Wi Wo r j k :=
  layer_apply X Wi Wo (fun _ => 0) _ (fun _ => 0) (fun _ => rfl)
    (fun i => (broadcastInDim_scalar_apply _ _ i).trans (zero_read _ _)) (fun _ => rfl) r j

/-- Entry `i` of part `c` of `8 * n` entries. -/
def part {n N : ℕ} (h : 8 * n = N) (c : Fin 8) (i : Fin n) : Fin N :=
  ⟨c.val * n + i.val, by have := c.isLt; have := i.isLt; subst h; nlinarith⟩

/-- A sum over all entries is the sum over the parts of their sums. -/
theorem sum_parts {n N : ℕ} (h : 8 * n = N) (f : Fin N → EReal) : ∑ k : Fin N, f k = ∑ c : Fin 8, ∑ i : Fin n, f (part h c i) := by
  subst h
  rw [← Fintype.sum_prod_type' (f := fun c i => f (part rfl c i)), ← Equiv.sum_comp finProdFinEquiv]
  refine Finset.sum_congr rfl fun p _ => congrArg f (Fin.ext ?_)
  simp [part, finProdFinEquiv, Nat.mul_comm, Nat.add_comm]

/-- The activations' blocks are their rows by parts. -/
theorem rows_apply (X : Mat 2048 256) (c : Fin 8) (r j : Fin 256) :
    (Layout.block ⟨2, ![256, 256]⟩ ⟨2, ![2048, 256]⟩ 0 8 c X) (ix2 r j) = X (ix2 (part rfl c r) j) :=
  congrArg X (funext fun a => Fin.ext (by match a with | ⟨0, _⟩ => rfl | ⟨1, _⟩ => rfl))

/-- The first weights' blocks are their columns by parts. -/
theorem wi_apply (W : Mat 256 4096) (c : Fin 8) (i : Fin 256) (k : Fin 512) :
    (Layout.block ⟨2, ![256, 512]⟩ ⟨2, ![256, 4096]⟩ 1 8 c W) (ix2 i k) = W (ix2 i (part rfl c k)) :=
  congrArg W (funext fun a => Fin.ext (by match a with | ⟨0, _⟩ => rfl | ⟨1, _⟩ => rfl))

/-- The second weights' blocks are their rows by parts. -/
theorem wo_apply (W : Mat 4096 256) (c : Fin 8) (k : Fin 512) (j : Fin 256) :
    (Layout.block ⟨2, ![512, 256]⟩ ⟨2, ![4096, 256]⟩ 0 8 c W) (ix2 k j) = W (ix2 (part rfl c k) j) :=
  congrArg W (funext fun a => Fin.ext (by match a with | ⟨0, _⟩ => rfl | ⟨1, _⟩ => rfl))

/-- A sum over the devices, counted by masks from one of them. -/
theorem sum_masks (s : Dev nD) (f : Dev nD → EReal) :
    ∑ d, f d = f (nb s 0) + f (nb s 1) + f (nb s 2) + f (nb s 3) + f (nb s 4) + f (nb s 5) + f (nb s 6) + f (nb s 7) :=
  (Equiv.sum_comp (maskEquiv s) f).symm.trans (Fin.sum_univ_eight _)

/-- Two moves by the masks of the folds are one move. -/
theorem nb_fold (s : Dev nD) : nb (nb s 1) 3 = nb s 2 ∧ nb (nb s 1) 4 = nb s 5 ∧ nb (nb s 3) 4 = nb s 7 ∧ nb (nb s 2) 4 = nb s 6 := by
  revert s; decide

/-- The three folds sum a chunk over all devices. -/
theorem folds_sum (a : Dev nD → Vx Ideal) (wi : Dev nD → Vec Ideal S256x512 .f32) (wo : Dev nD → Vec Ideal S512x256 .f32)
    (s q : Dev nD) (i : S256x256.Idx) : folds a wi wo 4 s q i = ∑ d, mlpV (a q) (wi d) (wo d) i := by
  have add (x y : Vx Ideal) : addV x y i = x i + y i := by
    unfold addV k0_pay1; simp only [shapeCast_self]; rfl
  obtain ⟨h₁, h₂, h₃, h₄⟩ := nb_fold s
  rw [sum_masks s]
  simp only [folds, add, fold, nb_zero, h₁, h₂, h₃, h₄]
  abel

/-- A layer of the kernel on blocks of the activations and weights is the block of the reference's layer. -/
theorem layer_block (a : Dev nD → Vx Ideal) (wi : Dev nD → Vec Ideal S256x512 .f32) (wo : Dev nD → Vec Ideal S512x256 .f32)
    (X : Mat 2048 256) (Wi : Mat 256 4096) (Wo : Mat 4096 256)
    (ha : ∀ c, a c = Layout.block ⟨2, ![256, 256]⟩ ⟨2, ![2048, 256]⟩ 0 8 c X)
    (hi : ∀ c, wi c = Layout.block ⟨2, ![256, 512]⟩ ⟨2, ![256, 4096]⟩ 1 8 c Wi)
    (ho : ∀ c, wo c = Layout.block ⟨2, ![512, 256]⟩ ⟨2, ![4096, 256]⟩ 0 8 c Wo) (s q : Dev nD) :
    folds a wi wo 4 s q = Layout.block ⟨2, ![256, 256]⟩ ⟨2, ![2048, 256]⟩ 0 8 q (refLayer X Wi Wo) := by
  funext i
  obtain ⟨r, j, rfl⟩ : ∃ r j : Fin 256, i = ix2 r j := ⟨i 0, i 1, eq_ix2 i⟩
  rw [folds_sum, rows_apply, refLayer_apply, sum_parts (n := 512) rfl]
  refine Finset.sum_congr rfl fun d _ => ?_
  rw [mlpV_apply]
  refine Finset.sum_congr rfl fun k _ => ?_
  simp only [share, ha, hi, ho, rows_apply, wi_apply, wo_apply]

/-- The reference's activations before layer `l`. -/
def refAct (X : Mat 2048 256) (Wi : ℕ → Mat 256 4096) (Wo : ℕ → Mat 4096 256) : ℕ → Mat 2048 256
  | 0 => X
  | l + 1 => refLayer (refAct X Wi Wo l) (Wi l) (Wo l)

variable (I : Inputs Ideal) (X : Mat 2048 256) (Wi : ℕ → Mat 256 4096) (Wo : ℕ → Mat 4096 256)
  (hx : ∀ c, I.x c = Layout.block ⟨2, ![256, 256]⟩ ⟨2, ![2048, 256]⟩ 0 8 c X)
  (hi : ∀ l c, I.wi l c = Layout.block ⟨2, ![256, 512]⟩ ⟨2, ![256, 4096]⟩ 1 8 c (Wi l))
  (ho : ∀ l c, I.wo l c = Layout.block ⟨2, ![512, 256]⟩ ⟨2, ![4096, 256]⟩ 0 8 c (Wo l))

include hx hi ho in
/-- The kernel's activations are the blocks of the reference's. -/
theorem act_block (l : ℕ) : ∀ c, act I l c = Layout.block ⟨2, ![256, 256]⟩ ⟨2, ![2048, 256]⟩ 0 8 c (refAct X Wi Wo l) := by
  induction l with
  | zero =>
    intro c
    refine Eq.trans ?_ (hx c)
    unfold act k0_pay2
    simp only [shapeCast_self]
  | succ l ih =>
    intro c
    unfold act k0_pay22
    simp only [shapeCast_self]
    exact layer_block _ _ _ _ _ _ ih (hi l) (ho l) c c

include hx hi ho in
/-- The kernel's result on a device is the device's block of the reference's. -/
theorem result_block (c : Dev nD) : result I c = Layout.block ⟨2, ![256, 256]⟩ ⟨2, ![2048, 256]⟩ 0 8 c (refAct X Wi Wo 3) :=
  layer_block _ _ _ _ _ _ (act_block I X Wi Wo hx hi ho 2) (hi 2) (ho 2) c c

end Cert.KernelIdeal.Mlp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Value
public import Idealize.ShloMosaic.Adequacy
public import Idealize.ShloMosaic.Init

@[expose] public section

noncomputable section

namespace Cert.Proof

open Idealize.ShloMosaic Idealize.SL.Sem Cert.Kernel

set_option maxRecDepth 100000

/-- The kernel as printed and its idealization have the same bodies, -/
theorem defs₀_eq : Cert.Kernel.defs₀ (F := Bits) = Cert.KernelIdeal.defs₀ (F := Bits) :=
  congrArg Defs.onTc (funext fun l => funext fun a => by
    match l, a with
    | ⟨0, _⟩, (t, s) => rfl)

/-- so the same body tables. -/
theorem defs_eq : Cert.Kernel.defs (F := Bits) = Cert.KernelIdeal.defs (F := Bits) :=
  congrArg (Pipeline.defs (Cert.KernelIdeal.pcfgs (F := Bits))) defs₀_eq

/-- The kernel as printed runs, leaves its arguments and ends quiescent: its text is that of its idealization. -/
theorem frame_kernel : Cert.quiescent_Kernel := fun m ρ _ => by
  have h := Cert.KernelIdeal.Mlp.run_frame (F := Bits) m ρ
  rw [← defs_eq] at h
  exact h

/-- So does its idealization. -/
theorem frame_kernelIdeal : Cert.quiescent_KernelIdeal := fun m ρ _ => Cert.KernelIdeal.Mlp.run_frame (F := Ideal) m ρ

/-- So does the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From blocks of the reference's arguments, the idealized kernel ends with each device's block of the reference's
    result. -/
theorem algebraic : Cert.algebraic_KernelIdeal_ReferenceIdeal := fun m g m' g' _ hm => by
  let R (a : Ref Cert.ReferenceIdeal.sig .tc) := m' (((0 : Dev Cert.ReferenceIdeal.nD).tc : Thread Cert.ReferenceIdeal.nD Cert.ReferenceIdeal.τ).loc a)
  let X : Cert.KernelIdeal.Mlp.Mat 2048 256 := R Cert.ReferenceIdeal.main_arg0
  let Wi : ℕ → Cert.KernelIdeal.Mlp.Mat 256 4096
    | 0 => R Cert.ReferenceIdeal.main_arg1
    | 1 => R Cert.ReferenceIdeal.main_arg2
    | _ => R Cert.ReferenceIdeal.main_arg3
  let Wo : ℕ → Cert.KernelIdeal.Mlp.Mat 4096 256
    | 0 => R Cert.ReferenceIdeal.main_arg4
    | 1 => R Cert.ReferenceIdeal.main_arg5
    | _ => R Cert.ReferenceIdeal.main_arg6
  have hx (c : Dev Cert.KernelIdeal.nD) : (Cert.KernelIdeal.Mlp.inputs m).x c = Layout.block ⟨2, ![256, 256]⟩ ⟨2, ![2048, 256]⟩ 0 8 c X := (hm c).1
  have hi (l : ℕ) (c : Dev Cert.KernelIdeal.nD) :
      (Cert.KernelIdeal.Mlp.inputs m).wi l c = Layout.block ⟨2, ![256, 512]⟩ ⟨2, ![256, 4096]⟩ 1 8 c (Wi l) := by
    obtain ⟨-, h₁, h₂, h₃, -⟩ := hm c
    match l with
    | 0 => exact h₁
    | 1 => exact h₂
    | _ + 2 => exact h₃
  have ho (l : ℕ) (c : Dev Cert.KernelIdeal.nD) :
      (Cert.KernelIdeal.Mlp.inputs m).wo l c = Layout.block ⟨2, ![512, 256]⟩ ⟨2, ![4096, 256]⟩ 0 8 c (Wo l) := by
    obtain ⟨-, -, -, -, h₁, h₂, h₃⟩ := hm c
    match l with
    | 0 => exact h₁
    | 1 => exact h₂
    | _ + 2 => exact h₃
  refine ⟨Cert.KernelIdeal.Mlp.refAct X Wi Wo 3, ?_, ?_⟩
  · refine (θ_run Cert.KernelIdeal.defs _ _).mono (fun r h c => ?_) (Cert.KernelIdeal.Mlp.run_result (F := Ideal) m g)
    obtain ⟨h, ha⟩ := h.1 c
    exact ⟨h.trans (Cert.KernelIdeal.Mlp.result_block _ X Wi Wo hx hi ho c), ha⟩
  · exact (θ_run Cert.ReferenceIdeal.defs _ _).mono (fun r h => h 0) (Cert.ReferenceIdeal.Value.run (F := Ideal) m' g')

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof
